-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args_KernelIdeal [hPre_finite_args_KernelIdeal : Cert.Pre_finite_args_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args_ReferenceIdeal [hPre_finite_args_ReferenceIdeal : Cert.Pre_finite_args_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args_KernelIdeal [hKernelIdeal : Cert.KernelIdeal.Facts] [hPre_finite_args_KernelIdeal : Cert.Pre_finite_args_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args_ReferenceIdeal [hReferenceIdeal : Cert.ReferenceIdeal.Facts] [hPre_finite_args_ReferenceIdeal : Cert.Pre_finite_args_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_args_KernelIdeal [hKernelIdeal : Cert.KernelIdeal.Facts] [hReferenceIdeal : Cert.ReferenceIdeal.Facts] [hPre_finite_args_KernelIdeal : Cert.Pre_finite_args_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_args_KernelIdeal : Cert.Pre_finite_args_KernelIdeal.Facts) (hPre_finite_args_ReferenceIdeal : Cert.Pre_finite_args_ReferenceIdeal.Facts),
    quiescent_Kernel (hKernel := hKernel)
    ∧ quiescent_KernelIdeal (hKernelIdeal := hKernelIdeal)
    ∧ quiescent_KernelIdeal_pre_finite_args_KernelIdeal (hKernelIdeal := hKernelIdeal) (hPre_finite_args_KernelIdeal := hPre_finite_args_KernelIdeal)
    ∧ quiescent_ReferenceIdeal (hReferenceIdeal := hReferenceIdeal)
    ∧ quiescent_ReferenceIdeal_pre_finite_args_ReferenceIdeal (hReferenceIdeal := hReferenceIdeal) (hPre_finite_args_ReferenceIdeal := hPre_finite_args_ReferenceIdeal)
    ∧ preserves_Kernel_KernelIdeal
    ∧ algebraic_KernelIdeal_ReferenceIdeal_pre_finite_args_KernelIdeal (hKernelIdeal := hKernelIdeal) (hReferenceIdeal := hReferenceIdeal) (hPre_finite_args_KernelIdeal := hPre_finite_args_KernelIdeal)
-- ==== Pre_finite_args_KernelIdeal.lean ====
abbrev S4096x1024 : Shape := ⟨2, ![4096, 1024]⟩
abbrev S4096x2048 : Shape := ⟨2, ![4096, 2048]⟩
abbrev S1 : Shape := ⟨1, ![1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S4096x1024 .f32) (main_arg1 : FVec F S4096x2048 .f32) (main_arg2 : FVec F S1 .f32) (main_arg3 : FVec F S1 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Pre_finite_args_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S4096x4096 .f32) (main_arg1 : FVec F S4096x2048 .f32) (main_arg2 : FVec F S1 .f32) (main_arg3 : FVec F S1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S4x1024x1024 : Shape := ⟨3, ![4, 1024, 1024]⟩
abbrev S3x1024x1024 : Shape := ⟨3, ![3, 1024, 1024]⟩
abbrev S2x1024x2048 : Shape := ⟨3, ![2, 1024, 2048]⟩
abbrev S4x1024x2048 : Shape := ⟨3, ![4, 1024, 2048]⟩
abbrev S5 : Shape := ⟨1, ![5]⟩
abbrev S2 : Shape := ⟨1, ![2]⟩
abbrev S4 : Shape := ⟨1, ![4]⟩
abbrev S6 : Shape := ⟨1, ![6]⟩
abbrev S4x4 : Shape := ⟨2, ![4, 4]⟩
abbrev S_ : Shape := ⟨0, ![]⟩
abbrev S1x256x1024 : Shape := ⟨3, ![1, 256, 1024]⟩
abbrev S256x1024 : Shape := ⟨2, ![256, 1024]⟩
abbrev S1x768x1024 : Shape := ⟨3, ![1, 768, 1024]⟩
abbrev S768x1024 : Shape := ⟨2, ![768, 1024]⟩
abbrev S1x1 : Shape := ⟨2, ![1, 1]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S256x2048 : Shape := ⟨2, ![256, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4x1024x1024, .f32⟩
  | .local _ .vmem, ⟨1, _⟩ => ⟨S3x1024x1024, .fp8e4m3⟩
  | .local _ .vmem, ⟨2, _⟩ => ⟨S4x1024x1024, .fp8e4m3⟩
  | .local _ .vmem, ⟨3, _⟩ => ⟨S2x1024x2048, .f32⟩
  | .local _ .vmem, ⟨4, _⟩ => ⟨S4x1024x2048, .fp8e4m3⟩
  | .local _ .vmem, ⟨5, _⟩ => ⟨S1024x2048, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1024_i32 : BitVec 32 := 1024#32
  let v36 : BitVec 32 := Scalar.muli v13 c1024_i32
  let c0_i32_22 : BitVec 32 := 0#32
  ![v36.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1024_i32 : BitVec 32 := 1024#32
  let v36 : BitVec 32 := Scalar.muli v13 c1024_i32
  let c256_i32 : BitVec 32 := 256#32
  let v37 : BitVec 32 := Scalar.addi v36 c256_i32
  let c0_i32_27 : BitVec 32 := 0#32
  ![v37.toNat, 0]
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_31 : BitVec 32 := 0#32
  let v52 : BitVec 1 := Scalar.cmpi .ne v2 c0_i32_31
  let v53 : BitVec 32 := Scalar.extui v52
  let c0_i32_32 : BitVec 32 := 0#32
  let v54 : BitVec 1 := Scalar.cmpi .ne v53 c0_i32_32
  v54

def k0_dev1 : Nat :=
  let c0_i32_475 : BitVec 32 := 0#32
  let c0_i32_473 : BitVec 32 := 0#32
  let c1_i32_474 : BitVec 32 := 1#32
  let v527 : BitVec 32 := Scalar.muli c0_i32_473 c1_i32_474
  let v528 : BitVec 32 := Scalar.addi c0_i32_475 v527
  v528.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v55 : BitVec 1 := Scalar.cmpi .ne v2 c1_i32_33
  let v56 : BitVec 32 := Scalar.extui v55
  let c0_i32_34 : BitVec 32 := 0#32
  let v57 : BitVec 1 := Scalar.cmpi .ne v56 c0_i32_34
  v57

def k0_dev2 : Nat :=
  let c0_i32_475 : BitVec 32 := 0#32
  let c1_i32_473 : BitVec 32 := 1#32
  let c1_i32_474 : BitVec 32 := 1#32
  let v527 : BitVec 32 := Scalar.muli c1_i32_473 c1_i32_474
  let v528 : BitVec 32 := Scalar.addi c0_i32_475 v527
  v528.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v58 : BitVec 1 := Scalar.cmpi .ne v2 c2_i32_35
  let v59 : BitVec 32 := Scalar.extui v58
  let c0_i32_36 : BitVec 32 := 0#32
  let v60 : BitVec 1 := Scalar.cmpi .ne v59 c0_i32_36
  v60

def k0_dev3 : Nat :=
  let c0_i32_475 : BitVec 32 := 0#32
  let c2_i32_473 : BitVec 32 := 2#32
  let c1_i32_474 : BitVec 32 := 1#32
  let v527 : BitVec 32 := Scalar.muli c2_i32_473 c1_i32_474
  let v528 : BitVec 32 := Scalar.addi c0_i32_475 v527
  v528.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_37 : BitVec 32 := 3#32
  let v61 : BitVec 1 := Scalar.cmpi .ne v2 c3_i32_37
  let v62 : BitVec 32 := Scalar.extui v61
  let c0_i32_38 : BitVec 32 := 0#32
  let v63 : BitVec 1 := Scalar.cmpi .ne v62 c0_i32_38
  v63

def k0_dev4 : Nat :=
  let c0_i32_475 : BitVec 32 := 0#32
  let c3_i32_473 : BitVec 32 := 3#32
  let c1_i32_474 : BitVec 32 := 1#32
  let v527 : BitVec 32 := Scalar.muli c3_i32_473 c1_i32_474
  let v528 : BitVec 32 := Scalar.addi c0_i32_475 v527
  v528.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_51 : BitVec 32 := 0#32
  ![v2.toNat, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_55 : BitVec 32 := 0#32
  let c0_i32_56 : BitVec 32 := 0#32
  ![v2.toNat, 0, 0]
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_53 : BitVec 32 := 1#32
  let v75 : BitVec 32 := Scalar.muli v13 c1_i32_53
  let v76 : BitVec 32 := Scalar.addi c0_i32_54 v75
  v76.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_28 : BitVec 32 := 1024#32
  let v48 : BitVec 32 := Scalar.muli v2 c1024_i32_28
  let c0_i32_63 : BitVec 32 := 0#32
  ![v48.toNat, 0]
def k0_off6 (d0 : Dev nD) (c1_i32_5 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1024_i32_29 : BitVec 32 := 1024#32
  let v49 : BitVec 32 := Scalar.muli v24 c1024_i32_29
  let c0_i32_68 : BitVec 32 := 0#32
  ![v49.toNat, 0]
def k0_off7 (d0 : Dev nD) (c0_i32_74 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v100 : BitVec 32 := Scalar.addi v2 c0_i32_74
  let c4_i32_75 : BitVec 32 := 4#32
  let c0_i32_76 : BitVec 32 := 0#32
  let v101 : BitVec 1 := Scalar.cmpi .eq c4_i32_75 c0_i32_76
  let c1_i32_77 : BitVec 32 := 1#32
  let v102 : BitVec 32 := Scalar.select v101 c1_i32_77 c4_i32_75
  let v103 : BitVec 32 := Scalar.remsi v100 v102
  let c0_i32_79 : BitVec 32 := 0#32
  let v105 : BitVec 1 := Scalar.cmpi .slt v103 c0_i32_79
  let c0_i32_80 : BitVec 32 := 0#32
  let v106 : BitVec 1 := Scalar.cmpi .slt v102 c0_i32_80
  let v107 : BitVec 1 := Scalar.xori v105 v106
  let c0_i32_78 : BitVec 32 := 0#32
  let v104 : BitVec 1 := Scalar.cmpi .ne v103 c0_i32_78
  let v108 : BitVec 1 := Scalar.andi v107 v104
  let v109 : BitVec 32 := Scalar.addi v103 v102
  let v110 : BitVec 32 := Scalar.select v108 v109 v103
  let c1024_i32_102 : BitVec 32 := 1024#32
  let v144 : BitVec 32 := Scalar.muli v110 c1024_i32_102
  let c0_i32_110 : BitVec 32 := 0#32
  ![v144.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_127 : BitVec 32 := 1#32
  ![v2.toNat, 1]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_131 : BitVec 32 := 256#32
  let c0_i32_132 : BitVec 32 := 0#32
  ![v2.toNat, 256, 0]
def k0_dev6 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_129 : BitVec 32 := 1#32
  let v169 : BitVec 32 := Scalar.muli v13 c1_i32_129
  let v170 : BitVec 32 := Scalar.addi c0_i32_130 v169
  v170.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_141 : BitVec 32 := 2#32
  ![v2.toNat, 2]
def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let c0_i32_145 : BitVec 32 := 0#32
  ![v2.toNat, 512, 0]
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_143 : BitVec 32 := 1#32
  let v185 : BitVec 32 := Scalar.muli v13 c1_i32_143
  let v186 : BitVec 32 := Scalar.addi c0_i32_144 v185
  v186.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_154 : BitVec 32 := 3#32
  ![v2.toNat, 3]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32 : BitVec 32 := 768#32
  let c0_i32_158 : BitVec 32 := 0#32
  ![v2.toNat, 768, 0]
def k0_dev8 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_156 : BitVec 32 := 1#32
  let v201 : BitVec 32 := Scalar.muli v13 c1_i32_156
  let v202 : BitVec 32 := Scalar.addi c0_i32_157 v201
  v202.toNat
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v219 : Index := Scalar.indexCast v2
  let c0_168 : Index := 0#32
  let c0_169 : Index := 0#32
  ![v219.toNat, 0, 0]
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_185 : BitVec 32 := 0#32
  let c0_i32_186 : BitVec 32 := 0#32
  ![v2.toNat, 0, 0]
def k0_dev9 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_183 : BitVec 32 := 1#32
  let v234 : BitVec 32 := Scalar.muli v24 c1_i32_183
  let v235 : BitVec 32 := Scalar.addi c0_i32_184 v234
  v235.toNat
def k0_dev10 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_201 : BitVec 32 := 1#32
  let v255 : BitVec 32 := Scalar.muli v35 c1_i32_201
  let v256 : BitVec 32 := Scalar.addi c0_i32_202 v255
  v256.toNat
def k0_off16 (d0 : Dev nD) (c0_i32_74 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v100 : BitVec 32 := Scalar.addi v2 c0_i32_74
  let c4_i32_75 : BitVec 32 := 4#32
  let c0_i32_76 : BitVec 32 := 0#32
  let v101 : BitVec 1 := Scalar.cmpi .eq c4_i32_75 c0_i32_76
  let c1_i32_77 : BitVec 32 := 1#32
  let v102 : BitVec 32 := Scalar.select v101 c1_i32_77 c4_i32_75
  let v103 : BitVec 32 := Scalar.remsi v100 v102
  let c0_i32_79 : BitVec 32 := 0#32
  let v105 : BitVec 1 := Scalar.cmpi .slt v103 c0_i32_79
  let c0_i32_80 : BitVec 32 := 0#32
  let v106 : BitVec 1 := Scalar.cmpi .slt v102 c0_i32_80
  let v107 : BitVec 1 := Scalar.xori v105 v106
  let c0_i32_78 : BitVec 32 := 0#32
  let v104 : BitVec 1 := Scalar.cmpi .ne v103 c0_i32_78
  let v108 : BitVec 1 := Scalar.andi v107 v104
  let v109 : BitVec 32 := Scalar.addi v103 v102
  let v110 : BitVec 32 := Scalar.select v108 v109 v103
  let v284 : Index := Scalar.indexCast v110
  let c0_225 : Index := 0#32
  let c0_226 : Index := 0#32
  ![v284.toNat, 0, 0]
def k0_off16_at (r : Fin 3) : BitVec 32 :=
  if r.val < 1 then
    0#32
  else
    if r.val < 2 then
      1#32
    else
      3#32
def k0_off17 (d0 : Dev nD) (c1_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v111 : BitVec 32 := Scalar.addi v2 c1_i32_81
  let c4_i32_82 : BitVec 32 := 4#32
  let c0_i32_83 : BitVec 32 := 0#32
  let v112 : BitVec 1 := Scalar.cmpi .eq c4_i32_82 c0_i32_83
  let c1_i32_84 : BitVec 32 := 1#32
  let v113 : BitVec 32 := Scalar.select v112 c1_i32_84 c4_i32_82
  let v114 : BitVec 32 := Scalar.remsi v111 v113
  let c0_i32_86 : BitVec 32 := 0#32
  let v116 : BitVec 1 := Scalar.cmpi .slt v114 c0_i32_86
  let c0_i32_87 : BitVec 32 := 0#32
  let v117 : BitVec 1 := Scalar.cmpi .slt v113 c0_i32_87
  let v118 : BitVec 1 := Scalar.xori v116 v117
  let c0_i32_85 : BitVec 32 := 0#32
  let v115 : BitVec 1 := Scalar.cmpi .ne v114 c0_i32_85
  let v119 : BitVec 1 := Scalar.andi v118 v115
  let v120 : BitVec 32 := Scalar.addi v114 v113
  let v121 : BitVec 32 := Scalar.select v119 v120 v114
  let c0_i32_249 : BitVec 32 := 0#32
  ![v121.toNat, 0]
def k0_off18 (d0 : Dev nD) (c1_i32_81 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v111 : BitVec 32 := Scalar.addi v2 c1_i32_81
  let c4_i32_82 : BitVec 32 := 4#32
  let c0_i32_83 : BitVec 32 := 0#32
  let v112 : BitVec 1 := Scalar.cmpi .eq c4_i32_82 c0_i32_83
  let c1_i32_84 : BitVec 32 := 1#32
  let v113 : BitVec 32 := Scalar.select v112 c1_i32_84 c4_i32_82
  let v114 : BitVec 32 := Scalar.remsi v111 v113
  let c0_i32_86 : BitVec 32 := 0#32
  let v116 : BitVec 1 := Scalar.cmpi .slt v114 c0_i32_86
  let c0_i32_87 : BitVec 32 := 0#32
  let v117 : BitVec 1 := Scalar.cmpi .slt v113 c0_i32_87
  let v118 : BitVec 1 := Scalar.xori v116 v117
  let c0_i32_85 : BitVec 32 := 0#32
  let v115 : BitVec 1 := Scalar.cmpi .ne v114 c0_i32_85
  let v119 : BitVec 1 := Scalar.andi v118 v115
  let v120 : BitVec 32 := Scalar.addi v114 v113
  let v121 : BitVec 32 := Scalar.select v119 v120 v114
  let c0_i32_253 : BitVec 32 := 0#32
  let c0_i32_254 : BitVec 32 := 0#32
  ![v121.toNat, 0, 0]
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let c0_i32_313 : BitVec 32 := 0#32
  let c0_i32_314 : BitVec 32 := 0#32
  ![v143.toNat, 0, 0]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let v384 : Index := Scalar.indexCast v143
  let c0_319 : Index := 0#32
  let c0_320 : Index := 0#32
  ![v384.toNat, 0, 0]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let c1_i32_333 : BitVec 32 := 1#32
  ![v143.toNat, 1]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let c256_i32_337 : BitVec 32 := 256#32
  let c0_i32_338 : BitVec 32 := 0#32
  ![v143.toNat, 256, 0]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let v409 : Index := Scalar.indexCast v143
  let c256_343 : Index := 256#32
  let c0_344 : Index := 0#32
  ![v409.toNat, 256, 0]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let c2_i32_357 : BitVec 32 := 2#32
  ![v143.toNat, 2]
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let c512_i32_361 : BitVec 32 := 512#32
  let c0_i32_362 : BitVec 32 := 0#32
  ![v143.toNat, 512, 0]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let v434 : Index := Scalar.indexCast v143
  let c512_367 : Index := 512#32
  let c0_368 : Index := 0#32
  ![v434.toNat, 512, 0]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let c3_i32_381 : BitVec 32 := 3#32
  ![v143.toNat, 3]
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let c768_i32_385 : BitVec 32 := 768#32
  let c0_i32_386 : BitVec 32 := 0#32
  ![v143.toNat, 768, 0]
def k0_off29 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v133 : BitVec 32 := Scalar.addi v2 c2_i32_95
  let c4_i32_96 : BitVec 32 := 4#32
  let c0_i32_97 : BitVec 32 := 0#32
  let v134 : BitVec 1 := Scalar.cmpi .eq c4_i32_96 c0_i32_97
  let c1_i32_98 : BitVec 32 := 1#32
  let v135 : BitVec 32 := Scalar.select v134 c1_i32_98 c4_i32_96
  let v136 : BitVec 32 := Scalar.remsi v133 v135
  let c0_i32_100 : BitVec 32 := 0#32
  let v138 : BitVec 1 := Scalar.cmpi .slt v136 c0_i32_100
  let c0_i32_101 : BitVec 32 := 0#32
  let v139 : BitVec 1 := Scalar.cmpi .slt v135 c0_i32_101
  let v140 : BitVec 1 := Scalar.xori v138 v139
  let c0_i32_99 : BitVec 32 := 0#32
  let v137 : BitVec 1 := Scalar.cmpi .ne v136 c0_i32_99
  let v141 : BitVec 1 := Scalar.andi v140 v137
  let v142 : BitVec 32 := Scalar.addi v136 v135
  let v143 : BitVec 32 := Scalar.select v141 v142 v136
  let v459 : Index := Scalar.indexCast v143
  let c768_391 : Index := 768#32
  let c0_392 : Index := 0#32
  ![v459.toNat, 768, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Box.lean ====
/-
Rectangles of a buffer as index sets (`box`), the element set and the reads and writes of a view that is a slice of
a whole buffer, squeezed or not, and the cutting of an assertion about a buffer along a partition of its indices.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.ValueLayout
public import Idealize.ShloMosaic.Lib.Tactic

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The indices at or after `lo` and before `lo + sz` on every axis. -/
def box (s : Shape) (lo sz : Fin s.rank → ℕ) : Finset s.Idx :=
  Finset.univ.filter fun i => ∀ a, lo a ≤ (i a).val ∧ (i a).val < lo a + sz a

theorem mem_box {s : Shape} {lo sz : Fin s.rank → ℕ} {i : s.Idx} :
    i ∈ box s lo sz ↔ ∀ a, lo a ≤ (i a).val ∧ (i a).val < lo a + sz a := by
  simp only [box, Finset.mem_filter, Finset.mem_univ, true_and]

/-- A unit-stride rectangle's elements are a box. -/
theorem unit_set (s : Shape) (off size : Fin s.rank → ℕ) (inb) :
    (Rect.unit (s := s) off size inb).set = box s off size := by
  ext i; rw [mem_box]; exact Rect.mem_set_unit

/-- A slice of a whole buffer covers the rectangle. -/
theorem set_sl (b : Ref sig .tc) (off size : Fin b.ty.shape.rank → ℕ) (inb) :
    ((View.whole b).slice (Rect.unit (s := b.ty.shape) off size inb)).set = box b.ty.shape off size := by
  rw [View.set_slice_whole, unit_set]

/-- A slice of a whole buffer, squeezed, covers the rectangle. -/
theorem set_sq (b : Ref sig .tc) (off size : Fin b.ty.shape.rank → ℕ) (inb) (s' : Shape) (h) :
    (((View.whole b).slice (Rect.unit (s := b.ty.shape) off size inb)).reshape s' h).set = box b.ty.shape off size := by
  rw [View.set_reshape, set_sl]

/-- A write through a view whose reading of `g` is the payload leaves `g` on the view's elements. -/
theorem write_agrees {sp : Space} {s : Shape} {e : EltTy} (v : View sig .tc sp s e)
    (f g : v.ty.Contents (Elt F)) (w : s.Idx → Elt F e) (h : v.read (Elt F) g = w) :
    ∀ i ∈ v.set, v.write (Elt F) f w Finset.univ i = g i := by
  subst h
  intro i hi
  rw [View.write_read_eq_piecewise]
  simp only [View.setOn_univ]
  exact Finset.piecewise_eq_of_mem _ _ _ hi

/-- An assertion about a set of elements is the family of those about the classes of a classifier of its indices. -/
theorem pts_cover {ℓ : Loc nD τ sig} {n : ℕ} (S : Finset (Idx ℓ)) (K : Fin n → Finset (Idx ℓ)) (pos : Idx ℓ → Fin n)
    (h : ∀ i j, i ∈ K j ↔ i ∈ S ∧ pos i = j) (q : PosShare TreeShare) (f : Buf (Elt F) ℓ) {U : Type} [URA U] :
    (ℓ ↦[S]{q} f : sProp (MT nD τ sig Unit (Elt F) ℕ U ℕ)) = bigSep Finset.univ fun j => ℓ ↦[K j]{q} f := by
  rw [← pointsTo_biUnion]
  · congr 1
    ext i
    simp only [Finset.mem_biUnion, Finset.mem_univ, true_and, h]
    exact ⟨fun hi => ⟨_, hi, rfl⟩, fun ⟨_, hi, _⟩ => hi⟩
  · intro t _ t' _ hne
    rw [Finset.disjoint_left]
    intro i hi hi'
    exact hne (((h i t).1 hi).2.symm.trans ((h i t').1 hi').2)

end Cert.V07
-- ==== Proof.Cells.lean ====
/-
The ring of four devices, the closed forms of the kernel's offsets and device ids, and the semaphore cells.
-/
module

public import proofs.«01_k».proof.Proof.Box

@[expose] public section

noncomputable section

namespace Cert.V07

open Cert.KernelIdeal Cert.KernelIdeal.Gen
open Idealize.ShloMosaic
open Idealize.ShloMosaic.TcCoe

/-! ## Devices -/

/-- The device `j` places after `c` on the ring. -/
def rot (j : ℕ) (c : Dev nD) : Dev nD := ⟨(c.val + j) % 4, Nat.mod_lt _ (by decide)⟩
/-- The device after `c`. -/
abbrev nx (c : Dev nD) : Dev nD := rot 1 c
/-- The device opposite `c`. -/
abbrev dg (c : Dev nD) : Dev nD := rot 2 c
/-- The device before `c`. -/
abbrev pv (c : Dev nD) : Dev nD := rot 3 c

theorem rot_val (j : ℕ) (c : Dev nD) : (rot j c).val = (c.val + j) % 4 := rfl
theorem dg_dg (c : Dev nD) : dg (dg c) = c := by revert c; decide
theorem nx_pv (c : Dev nD) : nx (pv c) = c := by revert c; decide
theorem pv_nx (c : Dev nD) : pv (nx c) = c := by revert c; decide
theorem dg_ne (c : Dev nD) : dg c ≠ c := by revert c; decide
theorem nx_ne (c : Dev nD) : nx c ≠ c := by revert c; decide
theorem pv_ne (c : Dev nD) : pv c ≠ c := by revert c; decide
theorem nx_ne_dg (c : Dev nD) : nx c ≠ dg c := by revert c; decide
theorem pv_ne_dg (c : Dev nD) : pv c ≠ dg c := by revert c; decide
theorem nx_ne_pv (c : Dev nD) : nx c ≠ pv c := by revert c; decide

/-! ## Closed forms -/

theorem off1_eq (c : Dev nD) : k0_off1 c = ![1024 * (dg c).val, 0] := by revert c; decide +kernel
theorem off2_eq (c : Dev nD) : k0_off2 c = ![1024 * (dg c).val + 256, 0] := by revert c; decide +kernel
theorem off5_eq (c : Dev nD) : k0_off5 c = ![1024 * c.val, 0] := k0_off5_eq c
theorem off6_1_eq (c : Dev nD) : k0_off6 c 1#32 = ![1024 * (nx c).val, 0] := by revert c; decide +kernel
theorem off6_3_eq (c : Dev nD) : k0_off6 c 3#32 = ![1024 * (pv c).val, 0] := by revert c; decide +kernel
theorem off7_0_eq (c : Dev nD) : k0_off7 c 0#32 = ![1024 * c.val, 0] := by revert c; decide +kernel
theorem off7_1_eq (c : Dev nD) : k0_off7 c 1#32 = ![1024 * (nx c).val, 0] := by revert c; decide +kernel
theorem off7_2_eq (c : Dev nD) : k0_off7 c 2#32 = ![1024 * (dg c).val, 0] := by revert c; decide +kernel
theorem off7_3_eq (c : Dev nD) : k0_off7 c 3#32 = ![1024 * (pv c).val, 0] := by revert c; decide +kernel
theorem off16_0_eq (c : Dev nD) : k0_off16 c 0#32 = ![c.val, 0, 0] := by revert c; decide +kernel
theorem off16_1_eq (c : Dev nD) : k0_off16 c 1#32 = ![(nx c).val, 0, 0] := by revert c; decide +kernel
theorem off16_3_eq (c : Dev nD) : k0_off16 c 3#32 = ![(pv c).val, 0, 0] := by revert c; decide +kernel
theorem off18_1_eq (c : Dev nD) : k0_off18 c 1#32 = ![(nx c).val, 0, 0] := by revert c; decide +kernel
theorem off18_3_eq (c : Dev nD) : k0_off18 c 3#32 = ![(pv c).val, 0, 0] := by revert c; decide +kernel
theorem off19_eq (c : Dev nD) : k0_off19 c = ![(dg c).val, 0, 0] := by revert c; decide +kernel
theorem off20_eq (c : Dev nD) : k0_off20 c = ![(dg c).val, 0, 0] := by revert c; decide +kernel
theorem off22_eq (c : Dev nD) : k0_off22 c = ![(dg c).val, 256, 0] := by revert c; decide +kernel
theorem off23_eq (c : Dev nD) : k0_off23 c = ![(dg c).val, 256, 0] := by revert c; decide +kernel
theorem off25_eq (c : Dev nD) : k0_off25 c = ![(dg c).val, 512, 0] := by revert c; decide +kernel
theorem off26_eq (c : Dev nD) : k0_off26 c = ![(dg c).val, 512, 0] := by revert c; decide +kernel
theorem off28_eq (c : Dev nD) : k0_off28 c = ![(dg c).val, 768, 0] := by revert c; decide +kernel
theorem off29_eq (c : Dev nD) : k0_off29 c = ![(dg c).val, 768, 0] := by revert c; decide +kernel

theorem dev5_eq (c : Dev nD) : (⟨k0_dev5 c, k0_dev5_lt c⟩ : Dev nD) = dg c := by revert c; decide +kernel
theorem dev6_eq (c : Dev nD) : (⟨k0_dev6 c, k0_dev6_lt c⟩ : Dev nD) = dg c := by revert c; decide +kernel
theorem dev7_eq (c : Dev nD) : (⟨k0_dev7 c, k0_dev7_lt c⟩ : Dev nD) = dg c := by revert c; decide +kernel
theorem dev8_eq (c : Dev nD) : (⟨k0_dev8 c, k0_dev8_lt c⟩ : Dev nD) = dg c := by revert c; decide +kernel
theorem dev9_eq (c : Dev nD) : (⟨k0_dev9 c, k0_dev9_lt c⟩ : Dev nD) = nx c := by revert c; decide +kernel
theorem dev10_eq (c : Dev nD) : (⟨k0_dev10 c, k0_dev10_lt c⟩ : Dev nD) = pv c := by revert c; decide +kernel

/-- The guards of the four barrier signals: device `j` is not the firing one. -/
theorem cond1_iff (c : Dev nD) : k0_cond1 c = 1#1 ↔ (0 : Dev nD) ≠ c := by revert c; decide +kernel
theorem cond2_iff (c : Dev nD) : k0_cond2 c = 1#1 ↔ (1 : Dev nD) ≠ c := by revert c; decide +kernel
theorem cond3_iff (c : Dev nD) : k0_cond3 c = 1#1 ↔ (2 : Dev nD) ≠ c := by revert c; decide +kernel
theorem cond4_iff (c : Dev nD) : k0_cond4 c = 1#1 ↔ (3 : Dev nD) ≠ c := by revert c; decide +kernel

/-! ## The semaphore cells -/

/-- The barrier semaphore. -/
abbrev barS : Sem sig := (SemArray.scalar (sig.barrier 0 rfl) : Sems sig S_).sem

/-- Semaphore `k` of a device: the barrier (0), then the kernel's DMA semaphores: those of the copies of `x` (1 to 5)
and of `w` (6, 7), of the copies of the result (8 to 11), of the sends (12 to 17) and of the receives (18 to 33). -/
def semL (k : Fin 34) : SemLoc sig :=
  if h : k.val = 0 then .reg barS else .dma ⟨k.val + 1, by have := k.isLt; show k.val + 1 < 35; omega⟩

/-- Cell `k` of device `c`. -/
abbrev cell (c : Dev nD) (k : Fin 34) : GSem nD τ sig := ((c : Thread nD τ), semL k)

def xk (i : Fin 5) : Fin 34 := ⟨1 + i.val, by omega⟩
def wk (i : Fin 2) : Fin 34 := ⟨6 + i.val, by omega⟩
def ok (i : Fin 4) : Fin 34 := ⟨8 + i.val, by omega⟩
def sk (i : Fin 6) : Fin 34 := ⟨12 + i.val, by omega⟩
def rk (d : Dev nD) (q : Fin 4) : Fin 34 := ⟨18 + (4 * d.val + q.val), by have := d.isLt; have : nD = 4 := rfl; omega⟩

/-- What a semaphore is for. -/
inductive Kind
  | bar
  | x (i : Fin 5)
  | w (i : Fin 2)
  | out (i : Fin 4)
  | send (i : Fin 6)
  | recv (d : Dev nD) (q : Fin 4)
  | other
deriving DecidableEq

/-- The use of a DMA semaphore by its number. -/
def kindN (n : ℕ) : Kind :=
  if h : n < 2 then .other
  else if h : n < 7 then .x ⟨n - 2, by omega⟩
  else if h : n < 9 then .w ⟨n - 7, by omega⟩
  else if h : n < 13 then .out ⟨n - 9, by omega⟩
  else if h : n < 19 then .send ⟨n - 13, by omega⟩
  else if h : n < 35 then .recv ⟨(n - 19) / 4, by show _ < 4; omega⟩ ⟨(n - 19) % 4, by omega⟩
  else .other

/-- The use of a semaphore. -/
def kindOf : SemLoc sig → Kind
  | .reg _ => .bar
  | .dma s => kindN s.val

theorem kind_bar : kindOf (semL 0) = .bar := by decide
theorem kind_x (i : Fin 5) : kindOf (semL (xk i)) = .x i := by revert i; decide
theorem kind_w (i : Fin 2) : kindOf (semL (wk i)) = .w i := by revert i; decide
theorem kind_o (i : Fin 4) : kindOf (semL (ok i)) = .out i := by revert i; decide
theorem kind_s (i : Fin 6) : kindOf (semL (sk i)) = .send i := by revert i; decide
theorem kind_r (d : Dev nD) (q : Fin 4) : kindOf (semL (rk d q)) = .recv d q := by revert d q; decide

theorem semL_inj : Function.Injective semL := by decide +kernel

theorem semL_bar : semL 0 = .reg barS := rfl

/-! ### The printed semaphores are those cells -/

theorem sx0 : SemLoc.dma (((cc0_scratch6 : DmaSems sig S5).slice (Rect.unit (s := S5) ![0] S1.size inb_S5_S1_0)).squeeze S_ squeezes_S1_S_).sem = semL (xk 0) := by decide +kernel
theorem sx1 : SemLoc.dma (((cc0_scratch6 : DmaSems sig S5).slice (Rect.unit (s := S5) ![1] S1.size inb_S5_S1_1)).squeeze S_ squeezes_S1_S_).sem = semL (xk 1) := by decide +kernel
theorem sx2 : SemLoc.dma (((cc0_scratch6 : DmaSems sig S5).slice (Rect.unit (s := S5) ![2] S1.size inb_S5_S1_2)).squeeze S_ squeezes_S1_S_).sem = semL (xk 2) := by decide +kernel
theorem sx3 : SemLoc.dma (((cc0_scratch6 : DmaSems sig S5).slice (Rect.unit (s := S5) ![3] S1.size inb_S5_S1_3)).squeeze S_ squeezes_S1_S_).sem = semL (xk 3) := by decide +kernel
theorem sx4 : SemLoc.dma (((cc0_scratch6 : DmaSems sig S5).slice (Rect.unit (s := S5) ![4] S1.size inb_S5_S1_4)).squeeze S_ squeezes_S1_S_).sem = semL (xk 4) := by decide +kernel
theorem sw0 : SemLoc.dma (((cc0_scratch7 : DmaSems sig S2).slice (Rect.unit (s := S2) ![0] S1.size inb_S2_S1_0)).squeeze S_ squeezes_S1_S_).sem = semL (wk 0) := by decide +kernel
theorem sw1 : SemLoc.dma (((cc0_scratch7 : DmaSems sig S2).slice (Rect.unit (s := S2) ![1] S1.size inb_S2_S1_1)).squeeze S_ squeezes_S1_S_).sem = semL (wk 1) := by decide +kernel
theorem so0 : SemLoc.dma (((cc0_scratch8 : DmaSems sig S4).slice (Rect.unit (s := S4) ![0] S1.size inb_S4_S1_0)).squeeze S_ squeezes_S1_S_).sem = semL (ok 0) := by decide +kernel
theorem so1 : SemLoc.dma (((cc0_scratch8 : DmaSems sig S4).slice (Rect.unit (s := S4) ![1] S1.size inb_S4_S1_1)).squeeze S_ squeezes_S1_S_).sem = semL (ok 1) := by decide +kernel
theorem so2 : SemLoc.dma (((cc0_scratch8 : DmaSems sig S4).slice (Rect.unit (s := S4) ![2] S1.size inb_S4_S1_2)).squeeze S_ squeezes_S1_S_).sem = semL (ok 2) := by decide +kernel
theorem so3 : SemLoc.dma (((cc0_scratch8 : DmaSems sig S4).slice (Rect.unit (s := S4) ![3] S1.size inb_S4_S1_3)).squeeze S_ squeezes_S1_S_).sem = semL (ok 3) := by decide +kernel
theorem ss0 : SemLoc.dma (((cc0_scratch9 : DmaSems sig S6).slice (Rect.unit (s := S6) ![0] S1.size inb_S6_S1_0)).squeeze S_ squeezes_S1_S_).sem = semL (sk 0) := by decide +kernel
theorem ss1 : SemLoc.dma (((cc0_scratch9 : DmaSems sig S6).slice (Rect.unit (s := S6) ![1] S1.size inb_S6_S1_1)).squeeze S_ squeezes_S1_S_).sem = semL (sk 1) := by decide +kernel
theorem ss2 : SemLoc.dma (((cc0_scratch9 : DmaSems sig S6).slice (Rect.unit (s := S6) ![2] S1.size inb_S6_S1_2)).squeeze S_ squeezes_S1_S_).sem = semL (sk 2) := by decide +kernel
theorem ss3 : SemLoc.dma (((cc0_scratch9 : DmaSems sig S6).slice (Rect.unit (s := S6) ![3] S1.size inb_S6_S1_3)).squeeze S_ squeezes_S1_S_).sem = semL (sk 3) := by decide +kernel
theorem ss4 : SemLoc.dma (((cc0_scratch9 : DmaSems sig S6).slice (Rect.unit (s := S6) ![4] S1.size inb_S6_S1_4)).squeeze S_ squeezes_S1_S_).sem = semL (sk 4) := by decide +kernel
theorem ss5 : SemLoc.dma (((cc0_scratch9 : DmaSems sig S6).slice (Rect.unit (s := S6) ![5] S1.size inb_S6_S1_5)).squeeze S_ squeezes_S1_S_).sem = semL (sk 5) := by decide +kernel
theorem sr3 (c : Dev nD) : SemLoc.dma (((cc0_scratch10 : DmaSems sig S4x4).slice (Rect.unit (s := S4x4) (k0_off3 c) S1x1.size (k0_off3_inb c))).squeeze S_ squeezes_S1x1_S_).sem = semL (rk c 0) := by revert c; decide +kernel
theorem sr8 (c : Dev nD) : SemLoc.dma (((cc0_scratch10 : DmaSems sig S4x4).slice (Rect.unit (s := S4x4) (k0_off8 c) S1x1.size (k0_off8_inb c))).squeeze S_ squeezes_S1x1_S_).sem = semL (rk c 1) := by revert c; decide +kernel
theorem sr10 (c : Dev nD) : SemLoc.dma (((cc0_scratch10 : DmaSems sig S4x4).slice (Rect.unit (s := S4x4) (k0_off10 c) S1x1.size (k0_off10_inb c))).squeeze S_ squeezes_S1x1_S_).sem = semL (rk c 2) := by revert c; decide +kernel
theorem sr12 (c : Dev nD) : SemLoc.dma (((cc0_scratch10 : DmaSems sig S4x4).slice (Rect.unit (s := S4x4) (k0_off12 c) S1x1.size (k0_off12_inb c))).squeeze S_ squeezes_S1x1_S_).sem = semL (rk c 3) := by revert c; decide +kernel
theorem sr21 (c : Dev nD) : SemLoc.dma (((cc0_scratch10 : DmaSems sig S4x4).slice (Rect.unit (s := S4x4) (k0_off21 c) S1x1.size (k0_off21_inb c))).squeeze S_ squeezes_S1x1_S_).sem = semL (rk (dg c) 1) := by revert c; decide +kernel
theorem sr24 (c : Dev nD) : SemLoc.dma (((cc0_scratch10 : DmaSems sig S4x4).slice (Rect.unit (s := S4x4) (k0_off24 c) S1x1.size (k0_off24_inb c))).squeeze S_ squeezes_S1x1_S_).sem = semL (rk (dg c) 2) := by revert c; decide +kernel
theorem sr27 (c : Dev nD) : SemLoc.dma (((cc0_scratch10 : DmaSems sig S4x4).slice (Rect.unit (s := S4x4) (k0_off27 c) S1x1.size (k0_off27_inb c))).squeeze S_ squeezes_S1x1_S_).sem = semL (rk (dg c) 3) := by revert c; decide +kernel
theorem sr17_1 (c : Dev nD) : SemLoc.dma (((cc0_scratch10 : DmaSems sig S4x4).slice (Rect.unit (s := S4x4) (k0_off17 c 1#32) S1x1.size (k0_off17_inb c 0))).squeeze S_ squeezes_S1x1_S_).sem = semL (rk (nx c) 0) := by revert c; decide +kernel
theorem sr17_2 (c : Dev nD) : SemLoc.dma (((cc0_scratch10 : DmaSems sig S4x4).slice (Rect.unit (s := S4x4) (k0_off17 c 2#32) S1x1.size (k0_off17_inb c 1))).squeeze S_ squeezes_S1x1_S_).sem = semL (rk (dg c) 0) := by revert c; decide +kernel
theorem sr17_3 (c : Dev nD) : SemLoc.dma (((cc0_scratch10 : DmaSems sig S4x4).slice (Rect.unit (s := S4x4) (k0_off17 c 3#32) S1x1.size (k0_off17_inb c 2))).squeeze S_ squeezes_S1x1_S_).sem = semL (rk (pv c) 0) := by revert c; decide +kernel

end Cert.V07
-- ==== Proof.Contents.lean ====
/-
What each buffer of a device holds: the input blocks as they are staged, rounded to the eight-bit format and
exchanged, the accumulator after each product, and the result.
-/
module

public import proofs.«01_k».proof.Proof.Cells

@[expose] public section

noncomputable section

namespace Cert.V07

open Cert.KernelIdeal Cert.KernelIdeal.Gen
open Idealize.ShloMosaic
open Idealize.ShloMosaic.TcCoe
open Idealize.ShloMosaic.ValueIdx

variable {F : FTy → Type} [FloatOps F]
variable (m : (ℓ : Loc nD τ sig) → Buf (Elt F) ℓ)

/-- Rounding to the eight-bit format, as the kernel does it. -/
def cast8 (v : F .f32) : F .fp8e4m3 := FloatOps.truncf .fp8e4m3 bitsLt_fp8e4m3_f32 v

/-- Device `c`'s `x`. -/
def xA (c : Dev nD) : S4096x1024.Idx → F .f32 := m ((c : Thread nD τ).loc main_arg0)
/-- Device `c`'s `w`. -/
def wA (c : Dev nD) : S4096x2048.Idx → F .f32 := m ((c : Thread nD τ).loc main_arg1)

/-- Row `r` of row block `d` of a device's `x`. -/
def xB (c d : Dev nD) (r k : Fin 1024) : F .f32 :=
  xA m c (ix2 ⟨1024 * d.val + r.val, by have := d.isLt; have := r.isLt; have : nD = 4 := rfl; omega⟩ k)
/-- Row `r` of row block `d` of a device's `w`. -/
def wB (c d : Dev nD) (r : Fin 1024) (k : Fin 2048) : F .f32 :=
  wA m c (ix2 ⟨1024 * d.val + r.val, by have := d.isLt; have := r.isLt; have : nD = 4 := rfl; omega⟩ k)

/-- The block of `x` that slot `s` of the staging buffer takes: opposite, own, next, previous. -/
def xsrc (c : Dev nD) : ℕ → Dev nD
  | 0 => dg c | 1 => c | 2 => nx c | _ => pv c
/-- The block of `x` that slot `s` of the send buffer holds: opposite, next, previous. -/
def ssrc (c : Dev nD) : ℕ → Dev nD
  | 0 => dg c | 1 => nx c | _ => pv c
/-- The block of `w` that slot `s` of the rounded buffer holds: own, next, previous, opposite. -/
def wsrc (c : Dev nD) : ℕ → Dev nD
  | 0 => c | 1 => nx c | 2 => pv c | _ => dg c

/-- The staged `x`. -/
def XST (c : Dev nD) : S4x1024x1024.Idx → F .f32 := fun i => xB m c (xsrc c (i 0).val) (i 1) (i 2)
/-- The send buffer. -/
def XS (c : Dev nD) : S3x1024x1024.Idx → F .fp8e4m3 := fun i => cast8 (xB m c (ssrc c (i 0).val) (i 1) (i 2))
/-- The gathered buffer: slot `d` is device `d`'s block of `x` for `c`. -/
def XG (c : Dev nD) : S4x1024x1024.Idx → F .fp8e4m3 := fun i => cast8 (xB m (i 0) c (i 1) (i 2))
/-- The staged `w`, in round `r` of its two slots. -/
def WST (c : Dev nD) (r : ℕ) : S2x1024x2048.Idx → F .f32 := fun i => wB m c (wsrc c (2 * r + (i 0).val)) (i 1) (i 2)
/-- The rounded `w`. -/
def W8 (c : Dev nD) : S4x1024x2048.Idx → F .fp8e4m3 := fun i => cast8 (wB m c (wsrc c (i 0).val) (i 1) (i 2))

/-- The gathered block of device `d`, as loaded. -/
def gL (c d : Dev nD) : Vec F S1x1024x1024 .fp8e4m3 := fun y => cast8 (xB m d c (y 1) (y 2))
/-- Quarter `q` of the opposite device's gathered block, as loaded. -/
def gQ (c : Dev nD) (q : Fin 4) : Vec F S1x256x1024 .fp8e4m3 := fun y =>
  cast8 (xB m (dg c) c ⟨256 * q.val + (y 1).val, by have h : (y 1).val < 256 := (y 1).isLt; have := q.isLt; omega⟩ (y 2))
/-- Slot `t` of the rounded `w`, as loaded. -/
def wL (c : Dev nD) (t : ℕ) : Vec F S1x1024x2048 .fp8e4m3 := fun y => cast8 (wB m c (wsrc c t) (y 1) (y 2))

/-- The product of device `c`'s two scales. -/
def sc (c : Dev nD) : F .f32 :=
  k0_pay8 (F := F) (m ((c : Thread nD τ).loc main_arg2) (ix1 0)) (m ((c : Thread nD τ).loc main_arg3) (ix1 0))

/-- The accumulator after the product with the own block. -/
def ACC0 (c : Dev nD) : FVec F S1024x2048 .f32 := k0_pay10 (sc m c) (gL m c c) (wL m c 0)
/-- The accumulator after the next device's block. -/
def ACC1 (c : Dev nD) : FVec F S1024x2048 .f32 := k0_pay13 (sc m c) (gL m c (nx c)) (wL m c 1) (ACC0 m c)
/-- The accumulator after the previous device's block. -/
def ACC2 (c : Dev nD) : FVec F S1024x2048 .f32 := k0_pay15 (sc m c) (gL m c (pv c)) (wL m c 2) (ACC1 m c)

/-- Rows of quarter `q` of the accumulator after three blocks. -/
def accQ (c : Dev nD) (q : Fin 4) : Vec F S256x2048 .f32 := fun y =>
  ACC2 m c (ix2 ⟨256 * q.val + (y 0).val, by have h : (y 0).val < 256 := (y 0).isLt; have := q.isLt; omega⟩ (y 1))
/-- Quarter `q` of the result. -/
def outQ (c : Dev nD) (q : Fin 4) : FVec F S256x2048 .f32 := k0_pay23 (sc m c) (accQ m c q) (gQ m c q) (wL m c 3)

/-- The quarter of a row. -/
def qtr (n : Fin 1024) : Fin 4 := ⟨n.val / 256, by have := n.isLt; omega⟩
/-- Device `c`'s result. -/
def OUT (c : Dev nD) : S1024x2048.Idx → F .f32 := fun i =>
  outQ m c (qtr (i 0)) (ix2 ⟨(i 0).val % 256, Nat.mod_lt _ (by decide)⟩ (i 1))

/-! ## Reads of those contents -/

/-- A rank-two index squeezed out of a leading unit axis. -/
theorem sq_ix {a b : ℕ} (h : (⟨2, ![a, b]⟩ : Shape).numel = (⟨3, ![1, a, b]⟩ : Shape).numel) (y : (⟨2, ![a, b]⟩ : Shape).Idx) :
    Shape.reshapeEquiv h y = ix3 (0 : Fin 1) (y 0) (y 1) := by
  obtain ⟨p, q, rfl⟩ : ∃ (p : Fin a) (q : Fin b), y = ix2 p q := ⟨y 0, y 1, eq_ix2 y⟩
  exact shapeCast_1ab_ab_apply (α := (⟨3, ![1, a, b]⟩ : Shape).Idx) id h p q

/-- Rounding between two shape casts that undo each other. -/
theorem round_cast {s t : Shape} (x : s.Idx → F .f32) (h : s.ShapeCasts t) (h' : t.ShapeCasts s) :
    shapeCast s (truncf .fp8e4m3 (shapeCast t x h) bitsLt_fp8e4m3_f32) h' = fun i => cast8 (x i) := by
  have := shapeCast_shapeCast (fun i => cast8 (x i)) h h'
  exact this

end Cert.V07
-- ==== Proof.Agree.lean ====
/-
Reading the contents through the kernel's views: what each copy, store and load sees of the buffers' contents.
-/
module

public import proofs.«01_k».proof.Proof.Contents

@[expose] public section

noncomputable section

namespace Cert.V07

open Cert.KernelIdeal Cert.KernelIdeal.Gen
open Idealize.ShloMosaic
open Idealize.ShloMosaic.TcCoe
open Idealize.ShloMosaic.ValueIdx

variable {F : FTy → Type} [FloatOps F]
variable (m : (ℓ : Loc nD τ sig) → Buf (Elt F) ℓ)

abbrev xM : Memref sig .tc .hbm S4096x1024 .f32 := Memref.whole main_arg0
abbrev wM : Memref sig .tc .hbm S4096x2048 .f32 := Memref.whole main_arg1
abbrev oM : Memref sig .tc .hbm S1024x2048 .f32 := Memref.whole main_v1
abbrev xstM : Memref sig .tc .vmem S4x1024x1024 .f32 := Memref.whole cc0_scratch0
abbrev xsM : Memref sig .tc .vmem S3x1024x1024 .fp8e4m3 := Memref.whole cc0_scratch1
abbrev xgM : Memref sig .tc .vmem S4x1024x1024 .fp8e4m3 := Memref.whole cc0_scratch2
abbrev wstM : Memref sig .tc .vmem S2x1024x2048 .f32 := Memref.whole cc0_scratch3
abbrev w8M : Memref sig .tc .vmem S4x1024x2048 .fp8e4m3 := Memref.whole cc0_scratch4
abbrev acM : Memref sig .tc .vmem S1024x2048 .f32 := Memref.whole cc0_scratch5

theorem xB_congr {c c' d d' : Dev nD} {r r' k k' : Fin 1024} (hc : c = c') (hd : d = d') (hr : r.val = r'.val) (hk : k.val = k'.val) :
    xB m c d r k = xB m c' d' r' k' := by
  subst hc; subst hd; rw [Fin.ext hr, Fin.ext hk]

theorem wB_congr {c d d' : Dev nD} {r r' : Fin 1024} {k k' : Fin 2048} (hd : d = d') (hr : r.val = r'.val) (hk : k.val = k'.val) :
    wB m c d r k = wB m c d' r' k' := by
  subst hd; rw [Fin.ext hr, Fin.ext hk]

/-! ## Copies from the arguments -/

/-- A row block of `x` copied into its slot of the staging buffer. -/
theorem x_copy {n : ℕ} (c d : Dev nD) (s lo : ℕ) (hs : xsrc c s = d) (off3 : Fin 3 → ℕ) (h3 : off3 = ![s, lo, 0]) (inb3)
    (off2 : Fin 2 → ℕ) (h2 : off2 = ![1024 * d.val + lo, 0]) (inb2) (hq) (hr hr') :
    ((xstM.slice (Rect.unit (s := S4x1024x1024) off3 ![1, n, 1024] inb3) hr).squeeze ⟨2, ![n, 1024]⟩ hq).view.read (Elt F) (XST m c)
      = (xM.slice (Rect.unit (s := S4096x1024) off2 ![n, 1024] inb2) hr').view.read (Elt F) (xA m c) := by
  subst h3 h2
  funext y
  show XST m c ((Rect.unit (s := S4x1024x1024) ![s, lo, 0] ![1, n, 1024] inb3).emb (Shape.reshapeEquiv _ y))
    = xA m c ((Rect.unit (s := S4096x1024) ![1024 * d.val + lo, 0] ![n, 1024] inb2).emb y)
  rw [sq_ix]
  refine congrArg (xA m c) (funext fun a => Fin.ext ?_)
  fin_cases a
  · show 1024 * (xsrc c (s + 1 * 0)).val + (lo + 1 * (y 0).val) = 1024 * d.val + lo + 1 * (y 0).val
    rw [Nat.mul_zero, Nat.add_zero, hs]; omega
  · rfl

/-- A row block of `w` copied into its slot of the staging buffer. -/
theorem w_copy (c d : Dev nD) (r s : ℕ) (hs : wsrc c (2 * r + s) = d) (off3 : Fin 3 → ℕ) (h3 : off3 = ![s, 0, 0]) (inb3)
    (off2 : Fin 2 → ℕ) (h2 : off2 = ![1024 * d.val, 0]) (inb2) (hq) (hr hr') :
    ((wstM.slice (Rect.unit (s := S2x1024x2048) off3 ![1, 1024, 2048] inb3) hr).squeeze S1024x2048 hq).view.read (Elt F) (WST m c r)
      = (wM.slice (Rect.unit (s := S4096x2048) off2 ![1024, 2048] inb2) hr').view.read (Elt F) (wA m c) := by
  subst h3 h2
  funext y
  show WST m c r ((Rect.unit (s := S2x1024x2048) ![s, 0, 0] ![1, 1024, 2048] inb3).emb (Shape.reshapeEquiv _ y))
    = wA m c ((Rect.unit (s := S4096x2048) ![1024 * d.val, 0] ![1024, 2048] inb2).emb y)
  rw [sq_ix]
  refine congrArg (wA m c) (funext fun a => Fin.ext ?_)
  fin_cases a
  · show 1024 * (wsrc c (2 * r + (s + 1 * 0))).val + (0 + 1 * (y 0).val) = 1024 * d.val + 1 * (y 0).val
    rw [Nat.mul_zero, Nat.add_zero, hs]; omega
  · rfl

/-! ## Stores of rounded blocks -/

/-- A part of the send buffer is the rounding of the matching part of the staged `x`. -/
theorem xs_store {n : ℕ} (c : Dev nD) (s t lo : ℕ) (hs : ssrc c s = xsrc c t) (inb3 inb3') :
    (xsM.access (Rect.unit (s := S3x1024x1024) ![s, lo, 0] ![1, n, 1024] inb3)).read (Elt F) (XS m c)
      = fun i => cast8 (xstM.view.readAt (Elt F) (Rect.unit (s := S4x1024x1024) ![t, lo, 0] ![1, n, 1024] inb3').toLoadRect (XST m c) i) := by
  funext y
  refine congrArg cast8 (xB_congr m rfl ?_ rfl rfl)
  have h0 : (y 0).val = 0 := by have : (y 0).val < 1 := (y 0).isLt; omega
  show ssrc c (s + 1 * (y 0).val) = xsrc c (t + 1 * (y 0).val)
  rw [h0]; exact hs

/-- The own slot of the gathered buffer is the rounding of the own block of the staged `x`. -/
theorem xg_store (c : Dev nD) (off : Fin 3 → ℕ) (h : off = ![c.val, 0, 0]) (inb3 inb3') :
    (xgM.access (Rect.unit (s := S4x1024x1024) off ![1, 1024, 1024] inb3)).read (Elt F) (XG m c)
      = fun i => cast8 (xstM.view.readAt (Elt F) (Rect.unit (s := S4x1024x1024) ![1, 0, 0] ![1, 1024, 1024] inb3').toLoadRect (XST m c) i) := by
  subst h
  funext y
  have h0 : (y 0).val = 0 := by have : (y 0).val < 1 := (y 0).isLt; omega
  refine congrArg cast8 (xB_congr m (Fin.ext ?_) ?_ rfl rfl)
  · show c.val + 1 * (y 0).val = c.val
    rw [h0]; rfl
  · show c = xsrc c (1 + 1 * (y 0).val)
    rw [h0]; rfl

/-- A slot of the rounded `w` is the rounding of a staged slot. -/
theorem w8_store (c : Dev nD) (r s t : ℕ) (hs : t = 2 * r + s) (inb3 inb3') :
    (w8M.access (Rect.unit (s := S4x1024x2048) ![t, 0, 0] ![1, 1024, 2048] inb3)).read (Elt F) (W8 m c)
      = fun i => cast8 (wstM.view.readAt (Elt F) (Rect.unit (s := S2x1024x2048) ![s, 0, 0] ![1, 1024, 2048] inb3').toLoadRect (WST m c r) i) := by
  subst hs
  funext y
  refine congrArg cast8 (wB_congr m ?_ rfl rfl)
  have h0 : (y 0).val = 0 := by have : (y 0).val < 1 := (y 0).isLt; omega
  show wsrc c (2 * r + s + 1 * (y 0).val) = wsrc c (2 * r + (s + 1 * (y 0).val))
  rw [h0]; rfl

/-! ## Sends -/

/-- A part of the send buffer lands in the sender's slot of the receiver's gathered buffer. -/
theorem send_read {n : ℕ} (c e : Dev nD) (s lo : ℕ) (hs : ssrc c s = e) (off : Fin 3 → ℕ) (h : off = ![c.val, lo, 0]) (inb3 inb3')
    (hq hq') (hr hr') :
    ((xgM.slice (Rect.unit (s := S4x1024x1024) off ![1, n, 1024] inb3) hr).squeeze ⟨2, ![n, 1024]⟩ hq).view.read (Elt F) (XG m e)
      = ((xsM.slice (Rect.unit (s := S3x1024x1024) ![s, lo, 0] ![1, n, 1024] inb3') hr').squeeze ⟨2, ![n, 1024]⟩ hq').view.read (Elt F) (XS m c) := by
  subst h
  funext y
  show XG m e ((Rect.unit (s := S4x1024x1024) ![c.val, lo, 0] ![1, n, 1024] inb3).emb (Shape.reshapeEquiv _ y))
    = XS m c ((Rect.unit (s := S3x1024x1024) ![s, lo, 0] ![1, n, 1024] inb3').emb (Shape.reshapeEquiv _ y))
  rw [sq_ix]
  exact congrArg cast8 (xB_congr m (Fin.ext rfl) hs.symm rfl rfl)

/-! ## Loads -/

theorem g_load (c d : Dev nD) (off : Fin 3 → ℕ) (h : off = ![d.val, 0, 0]) (inb) :
    xgM.view.readAt (Elt F) (Rect.unit (s := S4x1024x1024) off ![1, 1024, 1024] inb).toLoadRect (XG m c) = gL m c d := by
  subst h
  funext y
  have h0 : (y 0).val = 0 := by have : (y 0).val < 1 := (y 0).isLt; omega
  refine congrArg cast8 (xB_congr m (Fin.ext ?_) rfl ?_ ?_)
  · show d.val + 1 * (y 0).val = d.val
    rw [h0]; rfl
  · show 0 + 1 * (y 1).val = (y 1).val
    omega
  · show 0 + 1 * (y 2).val = (y 2).val
    omega

theorem gq_load (c : Dev nD) (q : Fin 4) (off : Fin 3 → ℕ) (h : off = ![(dg c).val, 256 * q.val, 0]) (inb) :
    xgM.view.readAt (Elt F) (Rect.unit (s := S4x1024x1024) off ![1, 256, 1024] inb).toLoadRect (XG m c) = gQ m c q := by
  subst h
  funext y
  have h0 : (y 0).val = 0 := by have : (y 0).val < 1 := (y 0).isLt; omega
  refine congrArg cast8 (xB_congr m (Fin.ext ?_) rfl ?_ ?_)
  · show (dg c).val + 1 * (y 0).val = (dg c).val
    rw [h0]; rfl
  · show 256 * q.val + 1 * (y 1).val = 256 * q.val + (y 1).val
    omega
  · show 0 + 1 * (y 2).val = (y 2).val
    omega

theorem w_load (c : Dev nD) (t : ℕ) (inb) :
    w8M.view.readAt (Elt F) (Rect.unit (s := S4x1024x2048) ![t, 0, 0] ![1, 1024, 2048] inb).toLoadRect (W8 m c) = wL m c t := by
  funext y
  have h0 : (y 0).val = 0 := by have : (y 0).val < 1 := (y 0).isLt; omega
  refine congrArg cast8 (wB_congr m ?_ ?_ ?_)
  · show wsrc c (t + 1 * (y 0).val) = wsrc c t
    rw [h0]; rfl
  · show 0 + 1 * (y 1).val = (y 1).val
    omega
  · show 0 + 1 * (y 2).val = (y 2).val
    omega

theorem hz2 : (![0, 0] : Fin 2 → Nat) = fun _ => 0 := funext fun a => by fin_cases a <;> rfl

/-- The whole accumulator as loaded. -/
theorem acc_load (f : S1024x2048.Idx → F .f32) (inb) :
    acM.view.readAt (Elt F) (Rect.unit (s := S1024x2048) ![0, 0] ![1024, 2048] inb).toLoadRect f = f :=
  Memref.readAt_unit_zero (Elt F) cc0_scratch5 hz2 _ f

/-- The whole accumulator as stored. -/
theorem acc_store (f w : S1024x2048.Idx → F .f32) (inb) :
    (acM.access (Rect.unit (s := S1024x2048) ![0, 0] ![1024, 2048] inb)).write (Elt F) f w Finset.univ = w :=
  Memref.write_access_unit_zero_univ (Elt F) cc0_scratch5 hz2 _ f w

/-- A quarter of the accumulator as loaded. -/
theorem accq_load (c : Dev nD) (q : Fin 4) (n : ℕ) (hn : n = 256 * q.val) (inb) :
    acM.view.readAt (Elt F) (Rect.unit (s := S1024x2048) ![n, 0] ![256, 2048] inb).toLoadRect (ACC2 m c) = accQ m c q := by
  subst hn
  funext y
  refine congrArg (ACC2 m c) (funext fun a => Fin.ext ?_)
  fin_cases a
  · show 256 * q.val + 1 * (y 0).val = 256 * q.val + (y 0).val
    omega
  · show 0 + 1 * (y 1).val = (y 1).val
    omega

/-- A quarter of the result as stored. -/
theorem outq_store (c : Dev nD) (q : Fin 4) (n : ℕ) (hn : n = 256 * q.val) (inb) :
    (acM.access (Rect.unit (s := S1024x2048) ![n, 0] ![256, 2048] inb)).read (Elt F) (OUT m c) = outQ m c q := by
  subst hn
  funext y
  have hy : (y 0).val < 256 := (y 0).isLt
  have hq := q.isLt
  show outQ m c (qtr ⟨256 * q.val + 1 * (y 0).val, _⟩) (ix2 ⟨(256 * q.val + 1 * (y 0).val) % 256, _⟩ ⟨0 + 1 * (y 1).val, _⟩) = outQ m c q y
  have e1 : qtr ⟨256 * q.val + 1 * (y 0).val, by omega⟩ = q := Fin.ext (by show (256 * q.val + 1 * (y 0).val) / 256 = q.val; omega)
  rw [e1]
  refine congrArg (outQ m c q) (funext fun a => Fin.ext ?_)
  fin_cases a
  · show (256 * q.val + 1 * (y 0).val) % 256 = (y 0).val
    omega
  · show 0 + 1 * (y 1).val = (y 1).val
    omega

/-- A quarter of the result copied out. -/
theorem out_copy (c : Dev nD) (n : ℕ) (inb inb') (hr hr') :
    (oM.slice (Rect.unit (s := S1024x2048) ![n, 0] ![256, 2048] inb) hr).view.read (Elt F) (OUT m c)
      = (acM.slice (Rect.unit (s := S1024x2048) ![n, 0] ![256, 2048] inb') hr').view.read (Elt F) (OUT m c) := rfl

end Cert.V07
-- ==== Proof.Sched.lean ====
/-
The protocol. Write `c` for the device, `nx c`, `dg c`, `pv c` for those one, two, three places after it on the ring.

* Barrier (one regular semaphore a device). Each device signals each of the other three by one unit, and waits for
  three units on its own, after its first two copies of `x` have been started and before it sends anything. The unit
  from `d` to `c` hands `c` slot `c` of `d`'s gathered buffer, with whatever it holds: that slot is where `c` sends.
* The copies of `x` (five semaphores of the device's own). Each is raised once, by the device's own copy of rows of
  `x` into the staging buffer, and waited for once. The landing hands back the staged slot, holding those rows, and
  the rows of the argument. Semaphore 4 takes the first 256 rows of block `dg c`, 0 the other 768 rows of it, and 1,
  2, 3 take blocks `c`, `nx c`, `pv c`.
* The copies of `w` (two semaphores of the device's own). Each is raised twice: round 0 stages blocks `c` and `nx c`,
  and round 1 stages blocks `pv c` and `dg c`, in the same two slots. Each wait of a round comes before the
  copy of the next one. The landing hands back the slot, holding the block, and the rows of the argument.
* The sends (six semaphores of the sender's own). Sends 0 to 3 take the quarters of the block for `dg c`; sends 4 and
  5 take the blocks for `nx c` and `pv c`. Each semaphore is raised once, when the source has been read, and waited
  for once, at the end; it hands back the part of the send buffer.
* The receives (a four by four grid of semaphores). Semaphore `(d, q)` of device `c` is raised once, by the send of
  device `d`: for `d = dg c` the send of quarter `q`, for the two neighbours (with `q = 0`) the send of the block. The
  landing hands `c` that quarter, or that slot, of its gathered buffer, holding `d`'s rounded block of `x` for `c`.
  `c` waits for `nx c`, then `pv c`, then the quarters in order. No other semaphore of the grid is used.
* The copies out (four semaphores of the device's own). Each is raised once, by the copy of a quarter of the
  accumulator to the result, and waited for once, at the end. The landing hands back the quarter of the result and the
  quarter of the accumulator, both holding the result.

A device that waits on the barrier owes only sends (level 2, above the barrier's level 1); one that waits for its own
copies (level 0) owes only sends; and one that waits for a receive owes nothing.
-/
module

public import proofs.«01_k».proof.Proof.Agree

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra beside the memory: the pipeline's own and the rounds of the cells. -/
abbrev UU := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

abbrev 𝒱₀ : Variants := Variants.none

variable (m : (ℓ : Loc nD τ sig) → Buf (Elt F) ℓ)

/-! ## Regions -/

/-- The elements `S` of a buffer of device `c` hold `f`. -/
abbrev at' (c : Dev nD) (b : Ref sig .tc) (S : Finset b.ty.shape.Idx) (f : b.ty.Contents (Elt F)) : sProp 𝕄 :=
  (((c : Thread nD τ).loc b) ↦[S]{fullShare} f)

/-- Where each copy of `x` lands in the staging buffer. -/
def xdst : Fin 5 → Finset S4x1024x1024.Idx
  | 0 => box S4x1024x1024 ![0, 256, 0] ![1, 768, 1024]
  | 1 => box S4x1024x1024 ![1, 0, 0] ![1, 1024, 1024]
  | 2 => box S4x1024x1024 ![2, 0, 0] ![1, 1024, 1024]
  | 3 => box S4x1024x1024 ![3, 0, 0] ![1, 1024, 1024]
  | 4 => box S4x1024x1024 ![0, 0, 0] ![1, 256, 1024]

/-- The rows of `x` each copy takes. -/
def xrow (c : Dev nD) : Fin 5 → Finset S4096x1024.Idx
  | 0 => box S4096x1024 ![1024 * (dg c).val + 256, 0] ![768, 1024]
  | 1 => box S4096x1024 ![1024 * c.val, 0] ![1024, 1024]
  | 2 => box S4096x1024 ![1024 * (nx c).val, 0] ![1024, 1024]
  | 3 => box S4096x1024 ![1024 * (pv c).val, 0] ![1024, 1024]
  | 4 => box S4096x1024 ![1024 * (dg c).val, 0] ![256, 1024]

/-- A slot of the staging buffer of `w`. -/
def wdst (s : Fin 2) : Finset S2x1024x2048.Idx := box S2x1024x2048 ![s.val, 0, 0] ![1, 1024, 2048]

/-- The rows of `w` of block `d`. -/
def wrow (d : Dev nD) : Finset S4096x2048.Idx := box S4096x2048 ![1024 * d.val, 0] ![1024, 2048]

/-- A quarter of the result, and of the accumulator. -/
def oq (q : Fin 4) : Finset S1024x2048.Idx := box S1024x2048 ![256 * q.val, 0] ![256, 2048]

/-- What each send takes of the send buffer. -/
def ssend : Fin 6 → Finset S3x1024x1024.Idx
  | 0 => box S3x1024x1024 ![0, 0, 0] ![1, 256, 1024]
  | 1 => box S3x1024x1024 ![0, 256, 0] ![1, 256, 1024]
  | 2 => box S3x1024x1024 ![0, 512, 0] ![1, 256, 1024]
  | 3 => box S3x1024x1024 ![0, 768, 0] ![1, 256, 1024]
  | 4 => box S3x1024x1024 ![1, 0, 0] ![1, 1024, 1024]
  | 5 => box S3x1024x1024 ![2, 0, 0] ![1, 1024, 1024]

/-- Slot `d` of the gathered buffer. -/
def gslot (d : Dev nD) : Finset S4x1024x1024.Idx := box S4x1024x1024 ![d.val, 0, 0] ![1, 1024, 1024]
/-- Quarter `q` of slot `d` of the gathered buffer. -/
def gqtr (d : Dev nD) (q : Fin 4) : Finset S4x1024x1024.Idx := box S4x1024x1024 ![d.val, 256 * q.val, 0] ![1, 256, 1024]

/-! ## Units -/

/-- The units a transfer of shape `s` raises its semaphore by. -/
def cr (s : Shape) (e : EltTy) : ℕ := RefSig.kindCredit RefSig.tileCredit RefSig.tileCredit_eq_zero RefSig.tileCredit_pos Kind.tc s e

theorem cr_eq {sp : Space} {s : Shape} {e : EltTy} (v : View sig .tc sp s e) : v.dmaCredit = cr s e := rfl

theorem cr_pos {s : Shape} {e : EltTy} (h : 0 < s.numel) (v : View sig .tc .vmem s e) : 0 < cr s e := View.dmaCredit_pos v h

def xN : Fin 5 → ℕ
  | 0 => cr S768x1024 .f32
  | 4 => cr S256x1024 .f32
  | _ => cr S1024x1024 .f32
def sN (i : Fin 6) : ℕ := if i.val < 4 then cr S256x1024 .fp8e4m3 else cr S1024x1024 .fp8e4m3
def wN : ℕ := cr S1024x2048 .f32
def oN : ℕ := cr S256x2048 .f32
def rN (c d : Dev nD) : ℕ := if d = dg c then cr S256x1024 .fp8e4m3 else cr S1024x1024 .fp8e4m3

theorem crQ_pos : 0 < cr S256x1024 .fp8e4m3 := by decide +kernel
theorem crS_pos : 0 < cr S1024x1024 .fp8e4m3 := by decide +kernel
theorem xN_pos (i : Fin 5) : 0 < xN i := by revert i; decide +kernel
theorem sN_pos (i : Fin 6) : 0 < sN i := by revert i; decide +kernel
theorem wN_pos : 0 < wN := by decide +kernel
theorem oN_pos : 0 < oN := by decide +kernel
theorem rN_pos (c d : Dev nD) : 0 < rN c d := by unfold rN; split; exacts [crQ_pos, crS_pos]

/-! ## Payloads -/

/-- What `d`'s barrier unit hands `c`: slot `c` of `d`'s gathered buffer. -/
def barPay (c d : Dev nD) : sProp 𝕄 := iprop(∃ f, at' d cc0_scratch2 (gslot c) f)
/-- What the landing of a copy of `x` hands back. -/
def xPay (c : Dev nD) (i : Fin 5) : sProp 𝕄 :=
  iprop(at' c cc0_scratch0 (xdst i) (XST m c) ∗ at' c main_arg0 (xrow c i) (xA m c))
/-- What the landing of a copy of `w` hands back. -/
def wPay (c : Dev nD) (r : ℕ) (s : Fin 2) : sProp 𝕄 :=
  iprop(at' c cc0_scratch3 (wdst s) (WST m c r) ∗ at' c main_arg1 (wrow (wsrc c (2 * r + s.val))) (wA m c))
/-- What the landing of a copy out hands back. -/
def oPay (c : Dev nD) (q : Fin 4) : sProp 𝕄 :=
  iprop(at' c main_v1 (oq q) (OUT m c) ∗ at' c cc0_scratch5 (oq q) (OUT m c))
/-- What a send's completion hands back. -/
def sPay (c : Dev nD) (i : Fin 6) : sProp 𝕄 := at' c cc0_scratch1 (ssend i) (XS m c)
/-- What a receive hands over. -/
def rPay (c d : Dev nD) (q : Fin 4) : sProp 𝕄 :=
  at' c cc0_scratch2 (if d = dg c then gqtr d q else gslot d) (XG m c)

instance barPay_storable (c d) : BI.Storable (upEmb : UEmb _ 𝕄) (barPay (F := F) c d) := by unfold barPay; infer_instance
instance xPay_storable (c i) : BI.Storable (upEmb : UEmb _ 𝕄) (xPay m c i) := by unfold xPay; infer_instance
instance wPay_storable (c r s) : BI.Storable (upEmb : UEmb _ 𝕄) (wPay m c r s) := by unfold wPay; infer_instance
instance oPay_storable (c q) : BI.Storable (upEmb : UEmb _ 𝕄) (oPay m c q) := by unfold oPay; infer_instance
instance sPay_storable (c i) : BI.Storable (upEmb : UEmb _ 𝕄) (sPay m c i) := by unfold sPay; infer_instance
instance rPay_storable (c d q) : BI.Storable (upEmb : UEmb _ 𝕄) (rPay m c d q) := by unfold rPay; infer_instance

/-! ## The schedule -/

def dutiesK (c : Dev nD) (r : ℕ) : Kind → Finset (Dev nD)
  | .bar => if r = 0 then Finset.univ.erase c else ∅
  | .x _ => if r = 0 then {0} else ∅
  | .w _ => if r < 2 then {0} else ∅
  | .out _ => if r = 0 then {0} else ∅
  | .send _ => if r = 0 then {0} else ∅
  | .recv d q => if r = 0 ∧ (d = dg c ∨ (q = 0 ∧ d ≠ c)) then {0} else ∅
  | .other => ∅

def amountK (c : Dev nD) : Kind → ℕ
  | .bar => 1
  | .x i => xN i
  | .w _ => wN
  | .out _ => oN
  | .send i => sN i
  | .recv d _ => rN c d
  | .other => 1

def payK (c : Dev nD) (r : ℕ) (d : Dev nD) : Kind → sProp 𝕄
  | .bar => barPay c d
  | .x i => xPay m c i
  | .w s => wPay m c r s
  | .out q => oPay m c q
  | .send i => sPay m c i
  | .recv e q => rPay m c e q
  | .other => iprop(emp)

/-- Which transfers and signals each cell expects, of how many units, and what each hands over. -/
def Rd : Rounds.Schedule (GSem nD τ sig) (Dev nD) 𝕄 where
  duties g r := if g.1.2 = .tc then dutiesK g.1.1 r (kindOf g.2) else ∅
  unitless _ := False
  amount g _ _ := amountK g.1.1 (kindOf g.2)
  payload g r d := payK m g.1.1 r d (kindOf g.2)
  amount_pos g r d _ := by
    cases kindOf g.2 with
    | bar => exact Nat.one_pos
    | x i => exact xN_pos i
    | w _ => exact wN_pos
    | out _ => exact oN_pos
    | send i => exact sN_pos i
    | recv d q => exact rN_pos _ d
    | other => exact Nat.one_pos

instance Rd_payload_storable (g : GSem nD τ sig) (r : ℕ) (d : Dev nD) : BI.Storable (upEmb : UEmb _ 𝕄) ((Rd m).payload g r d) := by
  show BI.Storable upEmb (payK m g.1.1 r d (kindOf g.2))
  cases kindOf g.2 <;> unfold payK <;> dsimp only <;> infer_instance

section Tables
variable (c d : Dev nD)

theorem duties_bar : (Rd m).duties (cell c 0) 0 = Finset.univ.erase c := by
  show dutiesK c 0 (kindOf (semL 0)) = _; rw [kind_bar]; rfl
theorem duties_x (i : Fin 5) : (Rd m).duties (cell c (xk i)) 0 = {0} := by
  show dutiesK c 0 (kindOf (semL _)) = _; rw [kind_x]; rfl
theorem duties_w (i : Fin 2) (r : ℕ) (h : r < 2) : (Rd m).duties (cell c (wk i)) r = {0} := by
  show dutiesK c r (kindOf (semL _)) = _; rw [kind_w]; exact if_pos h
theorem duties_o (i : Fin 4) : (Rd m).duties (cell c (ok i)) 0 = {0} := by
  show dutiesK c 0 (kindOf (semL _)) = _; rw [kind_o]; rfl
theorem duties_s (i : Fin 6) : (Rd m).duties (cell c (sk i)) 0 = {0} := by
  show dutiesK c 0 (kindOf (semL _)) = _; rw [kind_s]; rfl
theorem duties_r (q : Fin 4) (h : d = dg c ∨ (q = 0 ∧ d ≠ c)) : (Rd m).duties (cell c (rk d q)) 0 = {0} := by
  show dutiesK c 0 (kindOf (semL _)) = _; rw [kind_r]; exact if_pos ⟨rfl, h⟩

/-- After round 0 nothing is expected of a cell that is not one of `w`'s. -/
theorem duties_later (k : Fin 34) (h : k ≠ wk 0 ∧ k ≠ wk 1) (r : ℕ) (hr : 1 ≤ r) : (Rd m).duties (cell c k) r = ∅ := by
  show dutiesK c r (kindOf (semL k)) = _
  have hw : ∀ i, kindOf (semL k) ≠ .w i := by revert h; revert k; decide +kernel
  have h0 : r ≠ 0 := by omega
  cases hk : kindOf (semL k) with
  | w i => exact absurd hk (hw i)
  | bar => exact if_neg h0
  | x _ => exact if_neg h0
  | out _ => exact if_neg h0
  | send _ => exact if_neg h0
  | recv d q => exact if_neg fun h => h0 h.1
  | other => rfl
/-- After round 1 nothing is expected of a cell of `w`'s. -/
theorem duties_later_w (i : Fin 2) (r : ℕ) (hr : 2 ≤ r) : (Rd m).duties (cell c (wk i)) r = ∅ := by
  show dutiesK c r (kindOf (semL _)) = _; rw [kind_w]; exact if_neg (by omega)
/-- A receive that no device sends to expects nothing. -/
theorem duties_r_none (q : Fin 4) (h : ¬ (d = dg c ∨ (q = 0 ∧ d ≠ c))) (r : ℕ) (hr : 0 ≤ r) : (Rd m).duties (cell c (rk d q)) r = ∅ := by
  show dutiesK c r (kindOf (semL _)) = _; rw [kind_r]; exact if_neg fun h' => h h'.2

variable (r : ℕ)
theorem amount_bar : (Rd m).amount (cell c 0) r d = 1 := by show amountK c (kindOf (semL 0)) = _; rw [kind_bar]; rfl
theorem amount_x (i : Fin 5) : (Rd m).amount (cell c (xk i)) r d = xN i := by show amountK c (kindOf (semL _)) = _; rw [kind_x]; rfl
theorem amount_w (i : Fin 2) : (Rd m).amount (cell c (wk i)) r d = wN := by show amountK c (kindOf (semL _)) = _; rw [kind_w]; rfl
theorem amount_o (i : Fin 4) : (Rd m).amount (cell c (ok i)) r d = oN := by show amountK c (kindOf (semL _)) = _; rw [kind_o]; rfl
theorem amount_s (i : Fin 6) : (Rd m).amount (cell c (sk i)) r d = sN i := by show amountK c (kindOf (semL _)) = _; rw [kind_s]; rfl
theorem amount_r (e : Dev nD) (q : Fin 4) : (Rd m).amount (cell c (rk e q)) r d = rN c e := by show amountK c (kindOf (semL _)) = _; rw [kind_r]; rfl

theorem payload_bar : (Rd m).payload (cell c 0) r d = barPay c d := by show payK m c r d (kindOf (semL 0)) = _; rw [kind_bar]; rfl
theorem payload_x (i : Fin 5) : (Rd m).payload (cell c (xk i)) r d = xPay m c i := by show payK m c r d (kindOf (semL _)) = _; rw [kind_x]; rfl
theorem payload_w (i : Fin 2) : (Rd m).payload (cell c (wk i)) r d = wPay m c r i := by show payK m c r d (kindOf (semL _)) = _; rw [kind_w]; rfl
theorem payload_o (i : Fin 4) : (Rd m).payload (cell c (ok i)) r d = oPay m c i := by show payK m c r d (kindOf (semL _)) = _; rw [kind_o]; rfl
theorem payload_s (i : Fin 6) : (Rd m).payload (cell c (sk i)) r d = sPay m c i := by show payK m c r d (kindOf (semL _)) = _; rw [kind_s]; rfl
theorem payload_r (e : Dev nD) (q : Fin 4) : (Rd m).payload (cell c (rk e q)) r d = rPay m c e q := by show payK m c r d (kindOf (semL _)) = _; rw [kind_r]; rfl

/-- A round of one duty expects its units and hands over its payload. -/
theorem expect_one (g : GSem nD τ sig) (n : ℕ) (hd : (Rd m).duties g r = {0}) (ha : (Rd m).amount g r 0 = n) : (Rd m).expect g r = n := by
  unfold Schedule.expect Schedule.amountOf; rw [hd, Finset.sum_singleton, ha]
theorem rest_one (g : GSem nD τ sig) (P : sProp 𝕄) (hd : (Rd m).duties g r = {0}) (hp : (Rd m).payload g r 0 = P) :
    bigSep ((Rd m).duties g r \ ∅) (fun u => (Rd m).payload g r u) = P := by
  rw [Finset.sdiff_empty, hd, bigSep_singleton, hp]

theorem expect_bar : (Rd m).expect (cell c 0) 0 = 3 := by
  unfold Schedule.expect Schedule.amountOf
  rw [duties_bar, Finset.sum_congr rfl fun d _ => amount_bar m c d 0, Finset.sum_const, Finset.card_erase_of_mem (Finset.mem_univ _)]
  rfl

/-- The barrier hands over the three slots of `c` in the other devices. -/
theorem rest_bar : bigSep ((Rd m).duties (cell c 0) 0 \ ∅) (fun u => (Rd m).payload (cell c 0) 0 u)
    = iprop(barPay c (nx c) ∗ barPay c (dg c) ∗ barPay c (pv c)) := by
  have e : (Finset.univ.erase c : Finset (Dev nD)) = {nx c, dg c, pv c} := by revert c; decide
  rw [Finset.sdiff_empty, duties_bar, e, bigSep_insert (by revert c; decide), bigSep_insert (by revert c; decide), bigSep_singleton,
    payload_bar, payload_bar, payload_bar]
  rfl
end Tables

/-! ## What each device owes at launch; the levels -/

/-- The send of a quarter that a device owes. -/
abbrev oD (c : Dev nD) (q : Fin 4) : CellTallies nD τ sig Unit := tallyAt (cell (dg c) (rk c q)) () (rN (dg c) c)
/-- The send of a block that a device owes `d`. -/
abbrev oR (c d : Dev nD) : CellTallies nD τ sig Unit := tallyAt (cell d (rk c 0)) () (rN d c)

/-- The sends a device owes when `n` are still to go. -/
def OS (c : Dev nD) : Fin 7 → CellTallies nD τ sig Unit
  | 0 => 0
  | 1 => oR c (pv c)
  | 2 => oR c (pv c) + oR c (nx c)
  | 3 => oR c (pv c) + oR c (nx c) + oD c 3
  | 4 => oR c (pv c) + oR c (nx c) + oD c 3 + oD c 2
  | 5 => oR c (pv c) + oR c (nx c) + oD c 3 + oD c 2 + oD c 1
  | 6 => oR c (pv c) + oR c (nx c) + oD c 3 + oD c 2 + oD c 1 + oD c 0

/-- The barrier unit device `c` owes device `j`. -/
def bTal (c j : Dev nD) : CellTallies nD τ sig Unit := if j = c then 0 else tallyAt (cell j 0) () 1

/-- What a device owes with the barrier units of the first `n` devices still to go, counted from the last. -/
def OB (c : Dev nD) : Fin 5 → CellTallies nD τ sig Unit
  | 0 => OS c 6
  | 1 => OS c 6 + bTal c 3
  | 2 => OS c 6 + bTal c 3 + bTal c 2
  | 3 => OS c 6 + bTal c 3 + bTal c 2 + bTal c 1
  | 4 => OS c 6 + bTal c 3 + bTal c 2 + bTal c 1 + bTal c 0

/-- What a device owes at launch. -/
abbrev O₀ (c : Dev nD) : CellTallies nD τ sig Unit := OB c 4

def L (g : GSem nD τ sig) : Finset Unit := if g.1.2 = .tc then {()} else ∅
def lvK : Kind → ℕ
  | .bar => 1
  | .recv _ _ => 2
  | _ => 0
def lv (g : GSem nD τ sig) (_ : Unit) : ℕ := lvK (kindOf g.2)
theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h
  omega

/-- Sends owed are at receive cells. -/
theorem OS_pos {c : Dev nD} {n : Fin 7} {g : GSem nD τ sig} {u : Unit} (h : 0 < OS c n g u) : ∃ d e q, g = cell d (rk e q) := by
  have h1 : ∀ {g u}, 0 < OS c 1 g u → ∃ d e q, g = cell d (rk e q) := fun h => ⟨_, _, _, tally_pos h⟩
  have h2 : ∀ {g u}, 0 < OS c 2 g u → ∃ d e q, g = cell d (rk e q) := fun h => (add_pos_or h).elim h1 fun h => ⟨_, _, _, tally_pos h⟩
  have h3 : ∀ {g u}, 0 < OS c 3 g u → ∃ d e q, g = cell d (rk e q) := fun h => (add_pos_or h).elim h2 fun h => ⟨_, _, _, tally_pos h⟩
  have h4 : ∀ {g u}, 0 < OS c 4 g u → ∃ d e q, g = cell d (rk e q) := fun h => (add_pos_or h).elim h3 fun h => ⟨_, _, _, tally_pos h⟩
  have h5 : ∀ {g u}, 0 < OS c 5 g u → ∃ d e q, g = cell d (rk e q) := fun h => (add_pos_or h).elim h4 fun h => ⟨_, _, _, tally_pos h⟩
  have h6 : ∀ {g u}, 0 < OS c 6 g u → ∃ d e q, g = cell d (rk e q) := fun h => (add_pos_or h).elim h5 fun h => ⟨_, _, _, tally_pos h⟩
  fin_cases n
  · exact absurd h (Nat.lt_irrefl 0)
  exacts [h1 h, h2 h, h3 h, h4 h, h5 h, h6 h]

theorem bTal_pos {c j : Dev nD} {g : GSem nD τ sig} {u : Unit} (h : 0 < bTal c j g u) : g = cell j 0 := by
  unfold bTal at h
  split at h
  · exact absurd h (Nat.lt_irrefl 0)
  · exact tally_pos h

/-- All that is owed is at receive cells or barriers. -/
theorem OB_pos {c : Dev nD} {n : Fin 5} {g : GSem nD τ sig} {u : Unit} (h : 0 < OB c n g u) : (∃ d e q, g = cell d (rk e q)) ∨ ∃ d, g = cell d 0 := by
  have h0 : ∀ {g u}, 0 < OB c 0 g u → (∃ d e q, g = cell d (rk e q)) ∨ ∃ d, g = cell d 0 := fun h => .inl (OS_pos (c := c) (n := 6) h)
  have h1 : ∀ {g u}, 0 < OB c 1 g u → (∃ d e q, g = cell d (rk e q)) ∨ ∃ d, g = cell d 0 := fun h => (add_pos_or h).elim h0 fun h => .inr ⟨_, bTal_pos h⟩
  have h2 : ∀ {g u}, 0 < OB c 2 g u → (∃ d e q, g = cell d (rk e q)) ∨ ∃ d, g = cell d 0 := fun h => (add_pos_or h).elim h1 fun h => .inr ⟨_, bTal_pos h⟩
  have h3 : ∀ {g u}, 0 < OB c 3 g u → (∃ d e q, g = cell d (rk e q)) ∨ ∃ d, g = cell d 0 := fun h => (add_pos_or h).elim h2 fun h => .inr ⟨_, bTal_pos h⟩
  have h4 : ∀ {g u}, 0 < OB c 4 g u → (∃ d e q, g = cell d (rk e q)) ∨ ∃ d, g = cell d 0 := fun h => (add_pos_or h).elim h3 fun h => .inr ⟨_, bTal_pos h⟩
  fin_cases n
  exacts [h0 h, h1 h, h2 h, h3 h, h4 h]

theorem lv_r (d e : Dev nD) (q : Fin 4) (u : Unit) : lv (cell d (rk e q)) u = 2 := by show lvK (kindOf (semL _)) = 2; rw [kind_r]; rfl
theorem lv_bar (d : Dev nD) (u : Unit) : lv (cell d 0) u = 1 := by show lvK (kindOf (semL 0)) = 1; rw [kind_bar]; rfl

/-- A wait of level 0 while barrier units or sends are owed. -/
theorem mayWait_OB (c : Dev nD) (sm : SemLoc sig) (h : lvK (kindOf sm) = 0) (n : Fin 5) :
    (levAts L lv : sProp 𝕄) ⊢ MayWait (c : Thread nD τ) sm () (OB c n) :=
  MayOwe.of_cut (L := L) (lev := lv) 0 (fun p hp => by rw [Finset.mem_singleton.mp hp, L_tc]; exact Finset.mem_singleton_self _)
    (fun g u hg => by rcases OB_pos hg with ⟨d, e, q, rfl⟩ | ⟨d, rfl⟩ <;> exact Finset.mem_singleton_self _)
    (fun p hp => by rw [Finset.mem_singleton.mp hp]; exact le_of_eq h)
    (fun g u hg => by
      rcases OB_pos hg with ⟨d, e, q, rfl⟩ | ⟨d, rfl⟩
      · rw [lv_r]; decide
      · rw [lv_bar]; decide)

/-- A wait below the receives' level while sends are owed. -/
theorem mayWait_OS (c : Dev nD) (sm : SemLoc sig) (h : lvK (kindOf sm) ≤ 1) (n : Fin 7) :
    (levAts L lv : sProp 𝕄) ⊢ MayWait (c : Thread nD τ) sm () (OS c n) :=
  MayOwe.of_cut (L := L) (lev := lv) 1 (fun p hp => by rw [Finset.mem_singleton.mp hp, L_tc]; exact Finset.mem_singleton_self _)
    (fun g u hg => by obtain ⟨d, e, q, rfl⟩ := OS_pos hg; exact Finset.mem_singleton_self _)
    (fun p hp => by rw [Finset.mem_singleton.mp hp]; exact h)
    (fun g u hg => by obtain ⟨d, e, q, rfl⟩ := OS_pos hg; rw [lv_r]; decide)

end Cert.V07
-- ==== Proof.Wrap.lean ====
/-
The steps of the protocol: a copy of each kind, a send, a wait and a barrier signal, each with the cell it is for.
-/
module

public import proofs.«01_k».proof.Proof.Sched

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Every cell's record, and that its round 0 is reached. -/
def recs (K : Dev nD × Fin 34 → ℕ) : sProp 𝕄 :=
  bigSep Finset.univ fun ck => iprop(cellInv ER (Rd m) (K ck) (cell ck.1 ck.2) ∗ reached ER (cell ck.1 ck.2) 0)

instance recs_persistent (K) : BI.Persistent (recs m K) := by unfold recs; infer_instance

theorem recs_at (K : Dev nD × Fin 34 → ℕ) (c : Dev nD) (k : Fin 34) :
    recs m K ⊢ iprop(cellInv ER (Rd m) (K (c, k)) (cell c k) ∗ reached ER (cell c k) 0) := by
  unfold recs
  exact bigSep_elim (i := (c, k)) (Finset.mem_univ _)

/-- What a device owes, whatever it has waited for. -/
def Ow (c : Dev nD) (O : CellTallies nD τ sig Unit) : sProp 𝕄 := iprop(∃ W, owes (c : Thread nD τ) O W)

variable {K : Dev nD × Fin 34 → ℕ}

section

/-- A local copy onto a cell whose round `r` is reached. -/
theorem wp_cp {α : Type} {Q : α → sProp 𝕄} {k' : PUnit → Prog (TpuEff nD τ sig (Elt F) Λ₀ .tc) α}
    (c : Dev nD) (k : Fin 34) (r : ℕ) {sp sp' : Space} {s : Shape} {e : EltTy}
    {src : Memref sig .tc sp s e} {dst : Memref sig .tc sp' s e} {sem : DmaSem sig}
    {hsrc : src.view.WordExact} {hdst : dst.view.WordExact} {hsem : DmaTarget.Typed (nD := nD) (τ := τ) (p := (c : Thread nD τ).2) sp (.dma sem) (.here dst)}
    (hs : SemLoc.dma sem = semL k)
    {fs : Buf (Elt F) (src.view.loc (c : Thread nD τ))} {fd : Buf (Elt F) (dst.view.loc (c : Thread nD τ))}
    (g : Buf (Elt F) (dst.view.loc (c : Thread nD τ)))
    (hag : dst.view.read (Elt F) g = src.view.read (Elt F) fs)
    (hd : (Rd m).duties (cell c k) r = {0}) (N : ℕ) (hN : dst.view.dmaCredit = N) (hk : (Rd m).amount (cell c k) r 0 = N)
    {Ss : Finset (Idx (src.view.loc (c : Thread nD τ)))} (hS : src.view.set = Ss)
    {Sd : Finset (Idx (dst.view.loc (c : Thread nD τ)))} (hD : dst.view.set = Sd)
    (hpay : (Rd m).payload (cell c k) r 0 = iprop((dst.view.loc (c : Thread nD τ) ↦[Sd]{fullShare} g) ∗ (src.view.loc (c : Thread nD τ) ↦[Ss]{fullShare} fs))) :
    recs m K ⊢ iprop(reached ER (cell c k) r -∗ (src.view.loc (c : Thread nD τ) ↦[Ss]{fullShare} fs) -∗ (dst.view.loc (c : Thread nD τ) ↦[Sd]{fullShare} fd)
      -∗ dutyTok ER (cell c k) r 0
      -∗ (cred (tallyAt (cell c k) () N) -∗ wp frame (wpE (defs₀ (F := F)) 𝒱₀ (c : Thread nD τ) none) Set.univ (k' ⟨⟩) Q)
      -∗ wp frame (wpE (defs₀ (F := F)) 𝒱₀ (c : Thread nD τ) none) Set.univ (.op (.enqueueDma src (.here dst) (.dma sem) hsrc hdst hsem) k') Q) := by
  subst hS hD
  refine (recs_at m K c k).trans ?_
  simp only [cell, ← hs] at hd hk hpay ⊢
  iintro ⟨#HI, -⟩ Hr Hs Hd Ht Hk
  iapply (Rounds.wp_copy_pointsTo 𝒱₀ ER (Rd m) (c : Thread nD τ) none (κ := K (c, k)) (r := r) (d := (0 : Dev nD)) (fs := fs) (fd := fd)
    (by rw [hd]; exact Finset.mem_singleton_self _) () N (by rw [View.amount_dma]; exact hN) hk
    (by rw [hpay, pointsTo_congr (write_agrees dst.view fd g _ hag)])) $$ [Hr Hs Hd Ht]
  · isplitr; · iexact HI
    isplitl [Hs]; · iexact Hs
    isplitl [Hd]; · iexact Hd
    isplitl [Ht]; · iexact Ht
    iexact Hr
  iexact Hk

/-- A send of `src` to `dst` of device `e`. -/
theorem wp_snd {α : Type} {Q : α → sProp 𝕄} {k' : PUnit → Prog (TpuEff nD τ sig (Elt F) Λ₀ .tc) α}
    (c e n : Dev nD) (hn : n = e) (k₁ k₂ : Fin 34) {sp sp' : Space} {s : Shape} {et : EltTy}
    {src : Memref sig .tc sp s et} {dst : Memref sig .tc sp' s et} {sS sem : DmaSem sig}
    {hsc : (dst : Memref sig (Dev.tc n : Thread nD τ).2.kind sp' s et).view.ref.isScScratch = false}
    {hsrc : src.view.WordExact} {hdst : dst.view.WordExact}
    {hsem : DmaTarget.Typed (p := (c : Thread nD τ).2) sp (.dma sem) (.remote (Dev.tc n : Thread nD τ) dst (.dma sS) hsc)}
    (hs₁ : SemLoc.dma sS = semL k₁) (hs₂ : SemLoc.dma sem = semL k₂)
    {fs : Buf (Elt F) (src.view.loc (c : Thread nD τ))} {fd : Buf (Elt F) (dst.view.loc (e : Thread nD τ))}
    (g : Buf (Elt F) (dst.view.loc (e : Thread nD τ)))
    (hag : dst.view.read (Elt F) g = src.view.read (Elt F) fs)
    (hd₁ : (Rd m).duties (cell c k₁) 0 = {0}) (hd₂ : (Rd m).duties (cell e k₂) 0 = {0})
    (N : ℕ) (hN : dst.view.dmaCredit = N) (hk₁ : (Rd m).amount (cell c k₁) 0 0 = N) (hk₂ : (Rd m).amount (cell e k₂) 0 0 = N)
    {Ss : Finset (Idx (src.view.loc (c : Thread nD τ)))} (hS : src.view.set = Ss)
    {Sd : Finset (Idx (dst.view.loc (e : Thread nD τ)))} (hD : dst.view.set = Sd)
    (hpay₁ : (Rd m).payload (cell c k₁) 0 0 = iprop(src.view.loc (c : Thread nD τ) ↦[Ss]{fullShare} fs))
    (hpay₂ : (Rd m).payload (cell e k₂) 0 0 = iprop(dst.view.loc (e : Thread nD τ) ↦[Sd]{fullShare} g))
    (O O' : CellTallies nD τ sig Unit) (hO : O' = O + tallyAt (cell e k₂) () N) :
    recs m K ⊢ iprop((src.view.loc (c : Thread nD τ) ↦[Ss]{fullShare} fs) -∗ (dst.view.loc (e : Thread nD τ) ↦[Sd]{fullShare} fd)
      -∗ Ow c O' -∗ dutyTok ER (cell c k₁) 0 0 -∗ dutyTok ER (cell e k₂) 0 0
      -∗ ((cred (tallyAt (cell c k₁) () N) ∗ Ow c O) -∗ wp frame (wpE (defs₀ (F := F)) 𝒱₀ (c : Thread nD τ) none) Set.univ (k' ⟨⟩) Q)
      -∗ wp frame (wpE (defs₀ (F := F)) 𝒱₀ (c : Thread nD τ) none) Set.univ
          (.op (.enqueueDma src (.remote (Dev.tc n : Thread nD τ) dst (.dma sS) hsc) (.dma sem) hsrc hdst hsem) k') Q) := by
  subst hn hS hD
  refine (persistent_entails_right (recs_at m K n k₂)).trans ?_
  refine (sep_mono_right (recs_at m K c k₁)).trans ?_
  simp only [cell, ← hs₁] at hd₁ hk₁ hpay₁ ⊢
  simp only [cell, ← hs₂] at hd₂ hk₂ hpay₂ hO ⊢
  unfold Ow
  iintro ⟨⟨#HI₂, #Hr₂⟩, #HI₁, #Hr₁⟩ Hs Hd ⟨%W, HO⟩ Ht₁ Ht₂ Hk
  iapply (Rounds.wp_send_pointsTo 𝒱₀ ER (Rd m) (c : Thread nD τ) none (κ₁ := K (c, k₁)) (κ₂ := K (n, k₂))
    (r₁ := 0) (r₂ := 0) (d₁ := (0 : Dev nD)) (d₂ := (0 : Dev nD)) (fs := fs) (fd := fd)
    (by rw [hd₁]; exact Finset.mem_singleton_self _) (by rw [hd₂]; exact Finset.mem_singleton_self _)
    () () N (by rw [View.amount_dma]; exact hN) hk₁ hk₂ O hO (W := W)
    (by rw [hpay₁])
    (by rw [hpay₂, pointsTo_congr (write_agrees dst.view fd g _ hag)])) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- A wait for the whole of round `r` of a cell. -/
theorem wp_wt {α : Type} {Q : α → sProp 𝕄} {k' : PUnit → Prog (TpuEff nD τ sig (Elt F) Λ₀ .tc) α}
    (c : Dev nD) (k : Fin 34) (r : ℕ) {sp sp' : Space} {s s' : Shape} {e : EltTy}
    {src : Memref sig .tc sp s e} {dst : Memref sig .tc sp' s' e} {sem : DmaSem sig} {hsrc : src.view.WordExact} {hdst : dst.view.WordExact}
    (hs : SemLoc.dma sem = semL k) (N : ℕ) (hN : dst.view.dmaCredit = N)
    (hd : (Rd m).duties (cell c k) r = {0}) (hk : (Rd m).amount (cell c k) r 0 = N)
    (P : sProp 𝕄) (hP : (Rd m).payload (cell c k) r 0 = P)
    (O : CellTallies nD τ sig Unit) (hO : (levAts L lv : sProp 𝕄) ⊢ MayWait (c : Thread nD τ) (semL k) () O) :
    recs m K ⊢ iprop(levAts L lv -∗ cred (tallyAt (cell c k) () N) -∗ Ow c O -∗ atPos ER (cell c k) r ∅ 0
      -∗ ((Ow c O ∗ atPos ER (cell c k) (r + 1) ∅ 0 ∗ reached ER (cell c k) (r + 1) ∗ P)
          -∗ wp frame (wpE (defs₀ (F := F)) 𝒱₀ (c : Thread nD τ) none) Set.univ (k' ⟨⟩) Q)
      -∗ wp frame (wpE (defs₀ (F := F)) 𝒱₀ (c : Thread nD τ) none) Set.univ (.op (.waitDma2 sem src dst hsrc hdst) k') Q) := by
  have he := expect_one m r (cell c k) N hd hk
  have hp := rest_one m r (cell c k) P hd hP
  refine (recs_at m K c k).trans ?_
  simp only [cell, ← hs] at he hp hO ⊢
  subst hN
  unfold Ow
  iintro ⟨#HI, -⟩ Hl Hc ⟨%W, HO⟩ Ha Hk
  iapply (Rounds.wp_wait_rest_token 𝒱₀ ER (Rd m) (c : Thread nD τ) none (κ := K (c, k))
      (wpE_waitDma2_eq 𝒱₀ (c : Thread nD τ) none Set.univ) (Set.mem_univ _) () (O := O) (W := W) (R := r) (m := 0) (T := ∅)
      (by rw [Nat.zero_add, he])) $$ [Hl Hc HO Ha]
  · isplitr; · iexact HI
    isplitl [Hc]; · iexact Hc
    isplitl [HO]; · iexact HO
    isplitl [Hl]; · iapply hO; iexact Hl
    iexact Ha
  iintro ⟨HO, Ha, Hr, Hp⟩
  ihave Hp' := (Entails.of_eq hp) $$ Hp
  iapply Hk
  isplitl [HO]; · iexists _; iexact HO
  isplitl [Ha]; · iexact Ha
  isplitl [Hr]; · iexact Hr
  iexact Hp'

/-- A wait for the only round of a cell, which closes it. -/
theorem wp_wtc {α : Type} {Q : α → sProp 𝕄} {k' : PUnit → Prog (TpuEff nD τ sig (Elt F) Λ₀ .tc) α}
    (c : Dev nD) (k : Fin 34) (hlast : k ≠ wk 0 ∧ k ≠ wk 1) {sp sp' : Space} {s s' : Shape} {e : EltTy}
    {src : Memref sig .tc sp s e} {dst : Memref sig .tc sp' s' e} {sem : DmaSem sig} {hsrc : src.view.WordExact} {hdst : dst.view.WordExact}
    (hs : SemLoc.dma sem = semL k) (N : ℕ) (hN : dst.view.dmaCredit = N)
    (hd : (Rd m).duties (cell c k) 0 = {0}) (hk : (Rd m).amount (cell c k) 0 0 = N)
    (P : sProp 𝕄) (hP : (Rd m).payload (cell c k) 0 0 = P)
    (O : CellTallies nD τ sig Unit) (hO : (levAts L lv : sProp 𝕄) ⊢ MayWait (c : Thread nD τ) (semL k) () O) :
    recs m K ⊢ iprop(levAts L lv -∗ cred (tallyAt (cell c k) () N) -∗ Ow c O -∗ atPos ER (cell c k) 0 ∅ 0
      -∗ ((Ow c O ∗ semVal (cell c k) 0 ∗ P)
          -∗ wp frame (wpE (defs₀ (F := F)) 𝒱₀ (c : Thread nD τ) none) Set.univ (k' ⟨⟩) Q)
      -∗ wp frame (wpE (defs₀ (F := F)) 𝒱₀ (c : Thread nD τ) none) Set.univ (.op (.waitDma2 sem src dst hsrc hdst) k') Q) := by
  iintro #HR Hl Hc HO Ha Hk
  iapply (wp_wt m c k 0 hs N hN hd hk P hP O hO) $$ HR Hl Hc HO Ha
  iintro ⟨HO, Ha, -, Hp⟩
  ihave ⟨#HI, -⟩ := (recs_at m K c k) $$ HR
  imod (Rounds.cell_close ER (Rd m) (Set.mem_univ (K (c, k))) (fun h => h) (R := 0 + 1) (fun r hr => duties_later m c k hlast r hr)) $$ [Ha] with Hz
  · isplitr; · iexact HI
    iexact Ha
  iapply Hk
  isplitl [HO]; · iexact HO
  isplitl [Hz]; · iexact Hz
  iexact Hp

end

/-- Closing a cell from which nothing more is expected. -/
theorem close_at (c : Dev nD) (k : Fin 34) (R : ℕ) (h : ∀ r, R ≤ r → (Rd m).duties (cell c k) r = ∅) :
    recs m K ⊢ iprop(atPos ER (cell c k) R ∅ 0 -∗ |={Set.univ}=> semVal (cell c k) 0) := by
  refine (recs_at m K c k).trans ?_
  iintro ⟨#HI, -⟩ Ha
  iapply (Rounds.cell_close ER (Rd m) (Set.mem_univ (K (c, k))) (fun h => h) (R := R) h)
  isplitr; · iexact HI
  iexact Ha

end Cert.V07
-- ==== Proof.Steps.lean ====
/-
The copies, sends, waits, loads and stores of the kernel, each as one step on the regions of the protocol.
-/
module

public import proofs.«01_k».proof.Proof.Wrap

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {K : Dev nD × Fin 34 → ℕ}

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Boxes inside boxes. -/
theorem box_sub {s : Shape} {lo sz lo' sz' : Fin s.rank → ℕ} (h : ∀ a, lo' a ≤ lo a ∧ lo a + sz a ≤ lo' a + sz' a) :
    box s lo sz ⊆ box s lo' sz' := by
  intro i hi
  rw [mem_box] at hi ⊢
  intro a
  have := hi a
  have := h a
  omega

/-- A load of elements that are held, reading `v`. -/
theorem wp_ld {α : Type} {Q : α → sProp 𝕄} (c : Dev nD) {cs : CoreSpace} {s : Shape} {e : EltTy} (M : Memref sig .tc cs s e) {r : Rect s}
    {hl : M.view.LoadsAt r.toLoadRect} {k' : (r.shape.Idx → Elt F e) → Prog (TpuEff nD τ sig (Elt F) Λ₀ .tc) α}
    {S : Finset (Idx (M.view.loc (c : Thread nD τ)))} (hS : (M.access r).set ⊆ S) {f : Buf (Elt F) (M.view.loc (c : Thread nD τ))}
    {v : r.shape.Idx → Elt F e} (hv : M.view.readAt (Elt F) r.toLoadRect f = v) :
    (M.view.loc (c : Thread nD τ) ↦[S]{fullShare} f)
      ⊢ iprop(((M.view.loc (c : Thread nD τ) ↦[S]{fullShare} f) -∗ wpc c (k' v) Q) -∗ wpc c (.op (.load M r.toLoadRect hl) k') Q) := by
  subst hv
  exact wp_load 𝒱₀ (c : Thread nD τ) none Set.univ (m := M) (by rwa [View.set_slice] at hS)

/-- A store onto elements that are held, after which they hold `g`. -/
theorem wp_st {α : Type} {Q : α → sProp 𝕄} (c : Dev nD) {cs : CoreSpace} {s : Shape} {e : EltTy} (M : Memref sig .tc cs s e) {r : Rect s}
    {w : r.shape.Idx → Elt F e} {hx : (M.access r).Stores Finset.univ} {hm : (Finset.univ : Finset r.shape.Idx) = Finset.univ ∨ ∀ a, r.stride a = 1}
    {k' : PUnit → Prog (TpuEff nD τ sig (Elt F) Λ₀ .tc) α}
    {S : Finset (Idx (M.view.loc (c : Thread nD τ)))} (hS : (M.access r).set = S) {f : Buf (Elt F) (M.view.loc (c : Thread nD τ))}
    (g : Buf (Elt F) (M.view.loc (c : Thread nD τ))) (hw : (M.access r).read (Elt F) g = w) :
    (M.view.loc (c : Thread nD τ) ↦[S]{fullShare} f)
      ⊢ iprop(((M.view.loc (c : Thread nD τ) ↦[S]{fullShare} g) -∗ wpc c (k' ⟨⟩) Q) -∗ wpc c (.op (.store M r w Finset.univ hx hm) k') Q) := by
  subst hS
  change ((M.access r).loc (c : Thread nD τ) ↦[(M.access r).set]{fullShare} f)
    ⊢ iprop((((M.access r).loc (c : Thread nD τ) ↦[(M.access r).set]{fullShare} g) -∗ wpc c (k' ⟨⟩) Q) -∗ wpc c (.op (.store M r w Finset.univ hx hm) k') Q)
  rw [← pointsTo_congr (ℓ := (M.access r).loc (c : Thread nD τ)) (q := fullShare) (write_agrees (M.access r) f g w hw)]
  exact wp_store 𝒱₀ (c : Thread nD τ) none Set.univ (m := M) (r := r) (Mk := Finset.univ) (by rw [View.setOn_univ])

/-! ## Copies -/

/-- A copy of rows of `x` into the staging buffer. -/
theorem wp_xcp {α : Type} {Q : α → sProp 𝕄} {k' : PUnit → Prog (TpuEff nD τ sig (Elt F) Λ₀ .tc) α}
    (c : Dev nD) (i : Fin 5) (d : Dev nD) (n s lo : ℕ) (hs : xsrc c s = d) {off3 : Fin 3 → ℕ} (h3 : off3 = ![s, lo, 0]) {inb3}
    {off2 : Fin 2 → ℕ} (h2 : off2 = ![1024 * d.val + lo, 0]) {inb2} {hq hr hr'}
    (hx : box S4x1024x1024 ![s, lo, 0] ![1, n, 1024] = xdst i) (hx' : box S4096x1024 ![1024 * d.val + lo, 0] ![n, 1024] = xrow c i)
    (hN : cr ⟨2, ![n, 1024]⟩ .f32 = xN i) {sem : DmaSem sig} (hsm : SemLoc.dma sem = semL (xk i)) {hsrc hdst hsem}
    {fd : S4x1024x1024.Idx → F .f32} :
    recs m K ⊢ iprop(at' c main_arg0 (xrow c i) (xA m c) -∗ at' c cc0_scratch0 (xdst i) fd -∗ dutyTok ER (cell c (xk i)) 0 0
      -∗ (cred (tallyAt (cell c (xk i)) () (xN i)) -∗ wpc c (k' ⟨⟩) Q)
      -∗ wpc c (.op (.enqueueDma (xM.slice (Rect.unit (s := S4096x1024) off2 ![n, 1024] inb2) hr')
          (.here ((xstM.slice (Rect.unit (s := S4x1024x1024) off3 ![1, n, 1024] inb3) hr).squeeze ⟨2, ![n, 1024]⟩ hq)) (.dma sem) hsrc hdst hsem) k') Q) := by
  have hag := x_copy m c d s lo hs off3 h3 inb3 off2 h2 inb2 hq hr hr'
  have hS : (xM.slice (Rect.unit (s := S4096x1024) off2 ![n, 1024] inb2) hr').view.set = xrow c i := by
    rw [← hx', ← h2]; exact set_sl main_arg0 _ _ _
  have hD : ((xstM.slice (Rect.unit (s := S4x1024x1024) off3 ![1, n, 1024] inb3) hr).squeeze ⟨2, ![n, 1024]⟩ hq).view.set = xdst i := by
    rw [← hx, ← h3]; exact set_sq cc0_scratch0 _ _ _ _ _
  iintro #HR Hs Hd Ht Hk
  ihave ⟨-, #Hr⟩ := (recs_at m K c (xk i)) $$ HR
  iapply (wp_cp m c (xk i) 0 hsm (XST m c) hag (duties_x m c i) (xN i) ((cr_eq _).trans hN) (amount_x m c 0 0 i) hS hD
    (by rw [payload_x]; rfl)) $$ HR Hr Hs Hd Ht
  iexact Hk

/-- A copy of a block of `w` into a slot of its staging buffer, in round `r`. -/
theorem wp_wcp {α : Type} {Q : α → sProp 𝕄} {k' : PUnit → Prog (TpuEff nD τ sig (Elt F) Λ₀ .tc) α}
    (c : Dev nD) (r : ℕ) (hr2 : r < 2) (s : Fin 2) (d : Dev nD) (hs : wsrc c (2 * r + s.val) = d) {off3 : Fin 3 → ℕ} (h3 : off3 = ![s.val, 0, 0]) {inb3}
    {off2 : Fin 2 → ℕ} (h2 : off2 = ![1024 * d.val, 0]) {inb2} {hq hr hr'}
    {sem : DmaSem sig} (hsm : SemLoc.dma sem = semL (wk s)) {hsrc hdst hsem} {fd : S2x1024x2048.Idx → F .f32} :
    recs m K ⊢ iprop(reached ER (cell c (wk s)) r -∗ at' c main_arg1 (wrow d) (wA m c) -∗ at' c cc0_scratch3 (wdst s) fd -∗ dutyTok ER (cell c (wk s)) r 0
      -∗ (cred (tallyAt (cell c (wk s)) () wN) -∗ wpc c (k' ⟨⟩) Q)
      -∗ wpc c (.op (.enqueueDma (wM.slice (Rect.unit (s := S4096x2048) off2 ![1024, 2048] inb2) hr')
          (.here ((wstM.slice (Rect.unit (s := S2x1024x2048) off3 ![1, 1024, 2048] inb3) hr).squeeze S1024x2048 hq)) (.dma sem) hsrc hdst hsem) k') Q) := by
  have hag := w_copy m c d r s.val hs off3 h3 inb3 off2 h2 inb2 hq hr hr'
  have hS : (wM.slice (Rect.unit (s := S4096x2048) off2 ![1024, 2048] inb2) hr').view.set = wrow d := by
    unfold wrow; rw [← h2]; exact set_sl main_arg1 _ _ _
  have hD : ((wstM.slice (Rect.unit (s := S2x1024x2048) off3 ![1, 1024, 2048] inb3) hr).squeeze S1024x2048 hq).view.set = wdst s := by
    unfold wdst; rw [← h3]; exact set_sq cc0_scratch3 _ _ _ _ _
  iintro #HR Hr Hs Hd Ht Hk
  iapply (wp_cp m c (wk s) r hsm (WST m c r) hag (duties_w m c s r hr2) wN (cr_eq _) (amount_w m c 0 r s) hS hD
    ((payload_w m c 0 r s).trans (by rw [← hs]; rfl))) $$ HR Hr Hs Hd Ht
  iexact Hk

/-- A copy of a quarter of the accumulator to the result. -/
theorem wp_ocp {α : Type} {Q : α → sProp 𝕄} {k' : PUnit → Prog (TpuEff nD τ sig (Elt F) Λ₀ .tc) α}
    (c : Dev nD) (q : Fin 4) {off : Fin 2 → ℕ} (h : off = ![256 * q.val, 0]) {inb inb'} {hr hr'}
    {sem : DmaSem sig} (hsm : SemLoc.dma sem = semL (ok q)) {hsrc hdst hsem} {fd : S1024x2048.Idx → F .f32} :
    recs m K ⊢ iprop(at' c cc0_scratch5 (oq q) (OUT m c) -∗ at' c main_v1 (oq q) fd -∗ dutyTok ER (cell c (ok q)) 0 0
      -∗ (cred (tallyAt (cell c (ok q)) () oN) -∗ wpc c (k' ⟨⟩) Q)
      -∗ wpc c (.op (.enqueueDma (acM.slice (Rect.unit (s := S1024x2048) off ![256, 2048] inb) hr')
          (.here (oM.slice (Rect.unit (s := S1024x2048) off ![256, 2048] inb') hr)) (.dma sem) hsrc hdst hsem) k') Q) := by
  subst h
  have hag := out_copy m c (256 * q.val) inb' inb hr hr'
  have hS : (acM.slice (Rect.unit (s := S1024x2048) ![256 * q.val, 0] ![256, 2048] inb) hr').view.set = oq q := set_sl cc0_scratch5 _ _ _
  have hD : (oM.slice (Rect.unit (s := S1024x2048) ![256 * q.val, 0] ![256, 2048] inb') hr).view.set = oq q := set_sl main_v1 _ _ _
  iintro #HR Hs Hd Ht Hk
  ihave ⟨-, #Hr⟩ := (recs_at m K c (ok q)) $$ HR
  iapply (wp_cp m c (ok q) 0 hsm (OUT m c) hag (duties_o m c q) oN (cr_eq _) (amount_o m c 0 0 q) hS hD
    (by rw [payload_o]; rfl)) $$ HR Hr Hs Hd Ht
  iexact Hk

/-- A send of part of the send buffer to device `e`. -/
theorem wp_ssnd {α : Type} {Q : α → sProp 𝕄} {k' : PUnit → Prog (TpuEff nD τ sig (Elt F) Λ₀ .tc) α}
    (c e : Dev nD) {n' : Dev nD} (hn : n' = e) (i : Fin 6) (q : Fin 4) (n s lo : ℕ) (hs : ssrc c s = e) (hr4 : c = dg e ∨ (q = 0 ∧ c ≠ e))
    {off : Fin 3 → ℕ} (h : off = ![c.val, lo, 0]) {inb} {off' : Fin 3 → ℕ} (h' : off' = ![s, lo, 0]) {inb'} {hq hq' hr hr'}
    (hS : box S3x1024x1024 ![s, lo, 0] ![1, n, 1024] = ssend i)
    (Sg : Finset S4x1024x1024.Idx) (hG : box S4x1024x1024 ![c.val, lo, 0] ![1, n, 1024] = Sg) (hg : (if c = dg e then gqtr c q else gslot c) = Sg)
    (hN : cr ⟨2, ![n, 1024]⟩ .fp8e4m3 = sN i) (hN' : rN e c = sN i)
    {sS sem : DmaSem sig} (hs₁ : SemLoc.dma sS = semL (sk i)) (hs₂ : SemLoc.dma sem = semL (rk c q)) {hsc hsrc hdst hsem}
    {fd : S4x1024x1024.Idx → F .fp8e4m3} (O O' : CellTallies nD τ sig Unit) (hO : O' = O + tallyAt (cell e (rk c q)) () (rN e c)) :
    recs m K ⊢ iprop(at' c cc0_scratch1 (ssend i) (XS m c) -∗ at' e cc0_scratch2 Sg fd -∗ Ow c O'
      -∗ dutyTok ER (cell c (sk i)) 0 0 -∗ dutyTok ER (cell e (rk c q)) 0 0
      -∗ ((cred (tallyAt (cell c (sk i)) () (sN i)) ∗ Ow c O) -∗ wpc c (k' ⟨⟩) Q)
      -∗ wpc c (.op (.enqueueDma ((xsM.slice (Rect.unit (s := S3x1024x1024) off' ![1, n, 1024] inb') hr').squeeze ⟨2, ![n, 1024]⟩ hq')
          (.remote (Dev.tc n' : Thread nD τ) ((xgM.slice (Rect.unit (s := S4x1024x1024) off ![1, n, 1024] inb) hr).squeeze ⟨2, ![n, 1024]⟩ hq) (.dma sS) hsc)
          (.dma sem) hsrc hdst hsem) k') Q) := by
  subst h'
  have hag := send_read m c e s lo hs off h inb inb' hq hq' hr hr'
  have hSS : ((xsM.slice (Rect.unit (s := S3x1024x1024) ![s, lo, 0] ![1, n, 1024] inb') hr').squeeze ⟨2, ![n, 1024]⟩ hq').view.set = ssend i := by
    rw [← hS]; exact set_sq cc0_scratch1 _ _ _ _ _
  have hD : ((xgM.slice (Rect.unit (s := S4x1024x1024) off ![1, n, 1024] inb) hr).squeeze ⟨2, ![n, 1024]⟩ hq).view.set = Sg := by
    rw [← hG, ← h]; exact set_sq cc0_scratch2 _ _ _ _ _
  rw [hN'] at hO
  iintro #HR Hs Hd HO Ht₁ Ht₂ Hk
  iapply (wp_snd m c e n' hn (sk i) (rk c q) hs₁ hs₂ (XG m e) hag (duties_s m c i) (duties_r m e c q hr4) (sN i) ((cr_eq _).trans hN)
    (amount_s m c 0 0 i) ((amount_r m e 0 0 c q).trans hN') hSS hD (by rw [payload_s]; rfl)
    ((payload_r m e 0 0 c q).trans (by unfold rPay; rw [hg])) O O' hO) $$ HR Hs Hd HO Ht₁ Ht₂
  iexact Hk

/-! ## Waits -/

section Waits
variable {sp sp' : Space} {sh sh' : Shape} {e : EltTy} {src : Memref sig .tc sp sh e} {dst : Memref sig .tc sp' sh' e} {sem : DmaSem sig}
  {hsrc : src.view.WordExact} {hdst : dst.view.WordExact}

/-- The wait for a copy of `x`. -/
theorem wp_xwt {α : Type} {Q : α → sProp 𝕄} {k' : PUnit → Prog (TpuEff nD τ sig (Elt F) Λ₀ .tc) α} (c : Dev nD) (i : Fin 5)
    (hs : SemLoc.dma sem = semL (xk i)) (hN : dst.view.dmaCredit = xN i) (n : Fin 7) :
    recs m K ⊢ iprop(levAts L lv -∗ cred (tallyAt (cell c (xk i)) () (xN i)) -∗ Ow c (OS c n) -∗ atPos ER (cell c (xk i)) 0 ∅ 0
      -∗ ((Ow c (OS c n) ∗ semVal (cell c (xk i)) 0 ∗ xPay m c i) -∗ wpc c (k' ⟨⟩) Q)
      -∗ wpc c (.op (.waitDma2 sem src dst hsrc hdst) k') Q) :=
  wp_wtc m c (xk i) (by clear * -; revert i; decide) hs (xN i) hN (duties_x m c i) (amount_x m c 0 0 i) _ (payload_x m c 0 0 i) _
    (mayWait_OS c _ (by rw [kind_x]; exact Nat.zero_le _) n)

/-- The wait for a copy of `w`. -/
theorem wp_wwt {α : Type} {Q : α → sProp 𝕄} {k' : PUnit → Prog (TpuEff nD τ sig (Elt F) Λ₀ .tc) α} (c : Dev nD) (i : Fin 2) (r : ℕ) (hr : r < 2)
    (hs : SemLoc.dma sem = semL (wk i)) (hN : dst.view.dmaCredit = wN) (n : Fin 7) :
    recs m K ⊢ iprop(levAts L lv -∗ cred (tallyAt (cell c (wk i)) () wN) -∗ Ow c (OS c n) -∗ atPos ER (cell c (wk i)) r ∅ 0
      -∗ ((Ow c (OS c n) ∗ atPos ER (cell c (wk i)) (r + 1) ∅ 0 ∗ reached ER (cell c (wk i)) (r + 1) ∗ wPay m c r i) -∗ wpc c (k' ⟨⟩) Q)
      -∗ wpc c (.op (.waitDma2 sem src dst hsrc hdst) k') Q) :=
  wp_wt m c (wk i) r hs wN hN (duties_w m c i r hr) (amount_w m c 0 r i) _ (payload_w m c 0 r i) _
    (mayWait_OS c _ (by rw [kind_w]; exact Nat.zero_le _) n)

/-- The wait for a copy out. -/
theorem wp_owt {α : Type} {Q : α → sProp 𝕄} {k' : PUnit → Prog (TpuEff nD τ sig (Elt F) Λ₀ .tc) α} (c : Dev nD) (i : Fin 4)
    (hs : SemLoc.dma sem = semL (ok i)) (hN : dst.view.dmaCredit = oN) :
    recs m K ⊢ iprop(levAts L lv -∗ cred (tallyAt (cell c (ok i)) () oN) -∗ Ow c (OS c 0) -∗ atPos ER (cell c (ok i)) 0 ∅ 0
      -∗ ((Ow c (OS c 0) ∗ semVal (cell c (ok i)) 0 ∗ oPay m c i) -∗ wpc c (k' ⟨⟩) Q)
      -∗ wpc c (.op (.waitDma2 sem src dst hsrc hdst) k') Q) :=
  wp_wtc m c (ok i) (by clear * -; revert i; decide) hs oN hN (duties_o m c i) (amount_o m c 0 0 i) _ (payload_o m c 0 0 i) _
    (mayWait_OS c _ (by rw [kind_o]; exact Nat.zero_le _) 0)

/-- The wait for a send. -/
theorem wp_swt {α : Type} {Q : α → sProp 𝕄} {k' : PUnit → Prog (TpuEff nD τ sig (Elt F) Λ₀ .tc) α} (c : Dev nD) (i : Fin 6)
    (hs : SemLoc.dma sem = semL (sk i)) (hN : dst.view.dmaCredit = sN i) :
    recs m K ⊢ iprop(levAts L lv -∗ cred (tallyAt (cell c (sk i)) () (sN i)) -∗ Ow c (OS c 0) -∗ atPos ER (cell c (sk i)) 0 ∅ 0
      -∗ ((Ow c (OS c 0) ∗ semVal (cell c (sk i)) 0 ∗ sPay m c i) -∗ wpc c (k' ⟨⟩) Q)
      -∗ wpc c (.op (.waitDma2 sem src dst hsrc hdst) k') Q) :=
  wp_wtc m c (sk i) (by clear * -; revert i; decide) hs (sN i) hN (duties_s m c i) (amount_s m c 0 0 i) _ (payload_s m c 0 0 i) _
    (mayWait_OS c _ (by rw [kind_s]; exact Nat.zero_le _) 0)

/-- The wait for a receive. -/
theorem wp_rwt {α : Type} {Q : α → sProp 𝕄} {k' : PUnit → Prog (TpuEff nD τ sig (Elt F) Λ₀ .tc) α} (c d : Dev nD) (q : Fin 4)
    (h : d = dg c ∨ (q = 0 ∧ d ≠ c)) (hs : SemLoc.dma sem = semL (rk d q)) (hN : dst.view.dmaCredit = rN c d) :
    recs m K ⊢ iprop(levAts L lv -∗ cred (tallyAt (cell c (rk d q)) () (rN c d)) -∗ Ow c (OS c 0) -∗ atPos ER (cell c (rk d q)) 0 ∅ 0
      -∗ ((Ow c (OS c 0) ∗ semVal (cell c (rk d q)) 0 ∗ rPay m c d q) -∗ wpc c (k' ⟨⟩) Q)
      -∗ wpc c (.op (.waitDma2 sem src dst hsrc hdst) k') Q) :=
  wp_wtc m c (rk d q) (by clear * -; revert d q; decide) hs (rN c d) hN (duties_r m c d q h) (amount_r m c 0 0 d q) _ (payload_r m c 0 0 d q) _
    (by show _ ⊢ MayWait _ _ _ 0; rw [MayWait_zero]; iintro -; iempintro)

end Waits

end Cert.V07
-- ==== Proof.Barrier.lean ====
/-
The barrier: the unit a device raises another device's barrier by, and the wait for the three other devices.
-/
module

public import proofs.«01_k».proof.Proof.Steps

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {K : Dev nD × Fin 34 → ℕ}

/-- What device `c` hands to device `j` with its barrier unit: `j`'s slot of its gathered buffer. -/
def barRes (c j : Dev nD) : sProp 𝕄 := if j = c then iprop(emp) else iprop(dutyTok ER (cell j 0) 0 c ∗ barPay j c)

/-- The guarded raise of device `j`'s barrier, which device `j` itself skips. -/
theorem wp_bsig {Q : PUnit → sProp 𝕄} {kk : Prog (TpuEff nD τ sig (Elt F) Λ₀ .tc) PUnit} (c j : Dev nD) {p : Prop} [Decidable p] (hp : p ↔ j ≠ c)
    {n' : p → Dev nD} (hn : ∀ h, n' h = j) (O O' : CellTallies nD τ sig Unit) (hO : O' = O + bTal c j) :
    recs m K ⊢ iprop(Ow c O' -∗ barRes c j -∗ (Ow c O -∗ wpc c kk Q)
      -∗ wpc c (if h : p then .op (.semSignal ((n' h, Proc.tc) : Thread nD τ) (SemArray.scalar (sig.barrier 0 rfl) : Sems sig S_).sem (1#32 : BitVec 32).toInt) (fun _ => kk) else kk) Q) := by
  by_cases h : p
  · have hj : j ≠ c := hp.mp h
    rw [dif_pos h, hn h]
    have e : bTal c j = tallyAt (((j, Proc.tc) : Thread nD τ), .reg (SemArray.scalar (sig.barrier 0 rfl) : Sems sig S_).sem) () 1 := if_neg hj
    have e2 : barRes (F := F) c j = iprop(dutyTok ER (cell j 0) 0 c ∗ barPay j c) := if_neg hj
    rw [e2]
    iintro #HR HO ⟨Ht, Hp⟩ Hk
    ihave ⟨#HI, #Hr⟩ := (recs_at m K j 0) $$ HR
    unfold Ow
    icases HO with ⟨%W, HO⟩
    iapply (Rounds.wp_signal 𝒱₀ ER (Rd m) (c : Thread nD τ) none (dst := ((j, Proc.tc) : Thread nD τ)) (sem := (SemArray.scalar (sig.barrier 0 rfl) : Sems sig S_).sem)
      (κ := K (j, 0)) (r := 0) (d := c) (k' := 1) (show c ∈ (Rd m).duties (cell j 0) 0 by rw [duties_bar]; exact Finset.mem_erase.mpr ⟨hj.symm, Finset.mem_univ _⟩)
      (amount_bar m j c 0) () O (hO.trans (by rw [e])) (W := W)) $$ [HO Ht Hp]
    · isplitr; · iexact HI
      isplitl [HO]; · iexact HO
      isplitl [Ht]; · iexact Ht
      isplitl [Hp]
      · iapply (Entails.of_eq (show barPay j c = (Rd m).payload ((j, Proc.tc), .reg (SemArray.scalar (sig.barrier 0 rfl) : Sems sig S_).sem) 0 c from (payload_bar m j c 0).symm)); iexact Hp
      iexact Hr
    iintro HO
    iapply Hk
    iexists W; iexact HO
  · have hj : j = c := by by_contra hj; exact h (hp.mpr hj)
    rw [dif_neg h]
    have e : bTal c j = 0 := if_pos hj
    rw [e, add_zero] at hO
    rw [hO]
    iintro - HO - Hk
    iapply Hk $$ HO

/-- The wait for the three other devices, with every send still owed. -/
theorem wp_bwait {Q : PUnit → sProp 𝕄} {k' : PUnit → Prog (TpuEff nD τ sig (Elt F) Λ₀ .tc) PUnit} (c : Dev nD) :
    recs m K ⊢ iprop(levAts L lv -∗ cred (tallyAt (cell c 0) () 3) -∗ Ow c (OS c 6) -∗ atPos ER (cell c 0) 0 ∅ 0
      -∗ ((Ow c (OS c 6) ∗ semVal (cell c 0) 0 ∗ barPay c (nx c) ∗ barPay c (dg c) ∗ barPay c (pv c)) -∗ wpc c (k' ⟨⟩) Q)
      -∗ wpc c (.op (.semWait (SemArray.scalar (sig.barrier 0 rfl) : Sems sig S_).sem (3#32 : BitVec 32).toInt) k') Q) := by
  have he := expect_bar m c
  have hp := rest_bar m c
  have hO := mayWait_OS (F := F) c (semL 0) (by rw [kind_bar]; exact le_refl 1) 6
  have hs : SemLoc.reg (SemArray.scalar (sig.barrier 0 rfl) : Sems sig S_).sem = semL 0 := rfl
  have hz := close_at (K := K) m c 0 1 (fun r hr => duties_later m c 0 (by decide) r hr)
  have hR := recs_at m K c 0
  simp only [cell, ← hs] at he hp hO hz hR ⊢
  unfold Ow
  iintro #HR Hl Hc ⟨%W, HO⟩ Ha Hk
  ihave ⟨#HI, -⟩ := hR $$ HR
  iapply (Rounds.wp_wait_rest_token 𝒱₀ ER (Rd m) (c : Thread nD τ) none (sm := .reg (SemArray.scalar (sig.barrier 0 rfl) : Sems sig S_).sem) (κ := K (c, 0))
      (wpE_semWait_eq 𝒱₀ (c : Thread nD τ) none Set.univ) (Set.mem_univ _) () (O := OS c 6) (W := W) (R := 0) (m := 0) (T := ∅) (k' := 3)
      ((Nat.zero_add 3).trans he.symm)) $$ [Hl Hc HO Ha]
  · isplitr; · iexact HI
    isplitl [Hc]; · iexact Hc
    isplitl [HO]; · iexact HO
    isplitl [Hl]; · iapply hO; iexact Hl
    iexact Ha
  iintro ⟨HO, Ha, -, Hp⟩
  ihave Hp' := (Entails.of_eq hp) $$ Hp
  imod hz $$ HR Ha with Hz
  iapply Hk
  isplitl [HO]; · iexists _; iexact HO
  isplitl [Hz]; · iexact Hz
  iexact Hp'

/-- A finished program. -/
theorem wpc_ret {α : Type} {Q : α → sProp 𝕄} (c : Dev nD) (a : α) : Q a ⊢ wpc c (.ret a) Q := by
  show Q a ⊢ wp _ _ _ (.ret a) Q
  rw [wp_ret]
  exact BI.fupd_intro

end Cert.V07
-- ==== Proof.PartsA.lean ====
/-
The steps of the kernel, part by part: the exchange of `x`.
-/
module

public import proofs.«01_k».proof.Proof.Barrier

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {K : Dev nD × Fin 34 → ℕ}

/-- A slot of the rounded `w`. -/
def vdst (t : ℕ) : Finset S4x1024x2048.Idx := box S4x1024x2048 ![t, 0, 0] ![1, 1024, 2048]

theorem rN_to_dg (c : Dev nD) : rN (dg c) c = cr S256x1024 .fp8e4m3 := if_pos (dg_dg c).symm
theorem rN_dg (c : Dev nD) : rN c (dg c) = cr S256x1024 .fp8e4m3 := if_pos rfl
theorem rN_nx (c : Dev nD) : rN c (nx c) = cr S1024x1024 .fp8e4m3 := if_neg (nx_ne_dg c)
theorem rN_pv (c : Dev nD) : rN c (pv c) = cr S1024x1024 .fp8e4m3 := if_neg (pv_ne_dg c)
theorem ne_dg_nx (c : Dev nD) : ¬ c = dg (nx c) := by revert c; decide
theorem ne_dg_pv (c : Dev nD) : ¬ c = dg (pv c) := by revert c; decide
theorem rPay_dg (c : Dev nD) (q : Fin 4) : rPay m c (dg c) q = at' c cc0_scratch2 (gqtr (dg c) q) (XG m c) := by unfold rPay; rw [if_pos rfl]
theorem rPay_nx (c : Dev nD) : rPay m c (nx c) 0 = at' c cc0_scratch2 (gslot (nx c)) (XG m c) := by unfold rPay; rw [if_neg (nx_ne_dg c)]
theorem rPay_pv (c : Dev nD) : rPay m c (pv c) 0 = at' c cc0_scratch2 (gslot (pv c)) (XG m c) := by unfold rPay; rw [if_neg (pv_ne_dg c)]
theorem wPay_00 (c : Dev nD) : wPay m c 0 0 = iprop(at' c cc0_scratch3 (wdst 0) (WST m c 0) ∗ at' c main_arg1 (wrow c) (wA m c)) := rfl
theorem wPay_01 (c : Dev nD) : wPay m c 0 1 = iprop(at' c cc0_scratch3 (wdst 1) (WST m c 0) ∗ at' c main_arg1 (wrow (nx c)) (wA m c)) := rfl
theorem wPay_10 (c : Dev nD) : wPay m c 1 0 = iprop(at' c cc0_scratch3 (wdst 0) (WST m c 1) ∗ at' c main_arg1 (wrow (pv c)) (wA m c)) := rfl
theorem wPay_11 (c : Dev nD) : wPay m c 1 1 = iprop(at' c cc0_scratch3 (wdst 1) (WST m c 1) ∗ at' c main_arg1 (wrow (dg c)) (wA m c)) := rfl

/-- Quarters inside the staged rows of the opposite device's block. -/
theorem xd0_sub (lo : ℕ) (h : 256 ≤ lo ∧ lo + 256 ≤ 1024) : box S4x1024x1024 ![0, lo, 0] ![1, 256, 1024] ⊆ xdst 0 :=
  box_sub fun a => by
    fin_cases a
    · exact ⟨le_refl _, le_refl _⟩
    · exact ⟨h.1, h.2⟩
    · exact ⟨le_refl _, le_refl _⟩

/-- The first scale, as staged. -/
def s2 (c : Dev nD) : S1.Idx → F .f32 := m ((c : Thread nD τ).loc main_arg2)
/-- The second scale, as staged. -/
def s3 (c : Dev nD) : S1.Idx → F .f32 := m ((c : Thread nD τ).loc main_arg3)

theorem one_ix (i : S1.Idx) : i = ValueIdx.ix1 0 := by
  funext a
  fin_cases a
  exact Fin.ext (by have : (i 0).val < 1 := (i 0).isLt; show (i 0).val = 0; omega)
theorem smem_read2 (c : Dev nD) (inb) :
    (Memref.whole cc0_stg0_0 : Memref sig .tc .smem S1 .f32).view.readAt (Elt F) (Rect.unit (s := S1) ![0] S1.size inb).toLoadRect (s2 m c)
      = fun _ => m ((c : Thread nD τ).loc main_arg2) (ValueIdx.ix1 0) :=
  funext fun y => congrArg (s2 m c) (one_ix _)
theorem smem_read3 (c : Dev nD) (inb) :
    (Memref.whole cc0_stg1_0 : Memref sig .tc .smem S1 .f32).view.readAt (Elt F) (Rect.unit (s := S1) ![0] S1.size inb).toLoadRect (s3 m c)
      = fun _ => m ((c : Thread nD τ).loc main_arg3) (ValueIdx.ix1 0) :=
  funext fun y => congrArg (s3 m c) (one_ix _)

/-- The rounded second block of `w`. -/
def w1 (c : Dev nD) : FVec F S1024x2048 .fp8e4m3 :=
  k0_pay11 (wstM.view.readAt (Elt F) (Rect.unit (s := S2x1024x2048) ![1, 0, 0] S1x1024x2048.size inb_S2x1024x2048_S1x1024x2048_1_0_0).toLoadRect (WST m c 0))

theorem ac_univ (inb) : (acM.access (Rect.unit (s := S1024x2048) ![0, 0] S1024x2048.size inb)).set = Finset.univ := by
  refine (set_sl cc0_scratch5 _ _ _).trans ?_
  ext i
  rw [mem_box]
  refine ⟨fun _ => Finset.mem_univ _, fun _ a => ?_⟩
  have h0 : (i 0).val < 1024 := (i 0).isLt
  have h1 : (i 1).val < 2048 := (i 1).isLt
  fin_cases a
  · exact ⟨Nat.zero_le _, by show (i 0).val < 0 + 1024; omega⟩
  · exact ⟨Nat.zero_le _, by show (i 1).val < 0 + 2048; omega⟩
theorem ac_read (f : S1024x2048.Idx → F .f32) (inb) :
    (acM.access (Rect.unit (s := S1024x2048) ![0, 0] S1024x2048.size inb)).read (Elt F) f = f := acc_load f inb

/-- The first two copies of `x` and the barrier. -/
theorem part2 (c : Dev nD) (v2 : BitVec 32) (v13 : BitVec 32) (v24 : BitVec 32) (v35 : BitVec 32) {Q : PUnit → sProp 𝕄} {fx2 : S4x1024x1024.Idx → F .f32} {fx5 : S4x1024x1024.Idx → F .f32} :
    recs m K ⊢ iprop(levAts L lv -∗
      Ow c (OB c 4) -∗
      at' c main_arg0 (xrow c 4) (xA m c) -∗
      at' c cc0_scratch0 (xdst 4) fx2 -∗
      dutyTok ER (cell c (xk 4)) 0 0 -∗
      at' c main_arg0 (xrow c 0) (xA m c) -∗
      at' c cc0_scratch0 (xdst 0) fx5 -∗
      dutyTok ER (cell c (xk 0)) 0 0 -∗
      barRes c 0 -∗
      barRes c 1 -∗
      barRes c 2 -∗
      barRes c 3 -∗
      cred (tallyAt (cell c 0) () 3) -∗
      atPos ER (cell c 0) 0 ∅ 0 -∗
      (Ow c (OS c 6) -∗ cred (tallyAt (cell c (xk 4)) () (xN 4)) -∗ cred (tallyAt (cell c (xk 0)) () (xN 0)) -∗ semVal (cell c 0) 0 -∗ barPay c (nx c) -∗ barPay c (dg c) -∗ barPay c (pv c) -∗ Q ⟨⟩)
      -∗ wpc c (k0_part2 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 v13 v24 v35) Q) := by
  rw [k0_part2_eq_skeleton]; unfold k0_part2_skel
  simp only [Prog.lift, Prog.bind_op, Prog.bind_ret, Prog.pure_eq_ret, smemLoad, smemLoadElt]
  iintro #HR #Hl HO HX4 HD4 HTx4 HX0 HD0 HTx0 HB0 HB1 HB2 HB3 HCb HAb Hk
  iapply (wp_xcp m c 4 (dg c) 256 0 0 rfl rfl (off1_eq c) rfl rfl rfl sx4) $$ HR HX4 HD4 HTx4
  iintro HCx4
  iapply (wp_xcp m c 0 (dg c) 768 0 256 rfl rfl (off2_eq c) rfl rfl rfl sx0) $$ HR HX0 HD0 HTx0
  iintro HCx0
  iapply (wp_bsig m c 0 (cond1_iff c) (fun _ => rfl) (OB c 3) (OB c 4) rfl) $$ HR HO HB0
  iintro HO
  iapply (wp_bsig m c 1 (cond2_iff c) (fun _ => rfl) (OB c 2) (OB c 3) rfl) $$ HR HO HB1
  iintro HO
  iapply (wp_bsig m c 2 (cond3_iff c) (fun _ => rfl) (OB c 1) (OB c 2) rfl) $$ HR HO HB2
  iintro HO
  iapply (wp_bsig m c 3 (cond4_iff c) (fun _ => rfl) (OS c 6) (OB c 1) rfl) $$ HR HO HB3
  iintro HO
  iapply (wp_bwait m c) $$ HR Hl HCb HO HAb
  iintro ⟨HO, HZb, HPn, HPd, HPp⟩
  iapply (wpc_ret (F := F) c _)
  iapply Hk $$ HO HCx4 HCx0 HZb HPn HPd HPp

/-- The first quarter for the opposite device: waited for, rounded and sent; the copy of the own block is started. -/
theorem part3 (c : Dev nD) (v13 : BitVec 32) {Q : PUnit → sProp 𝕄} {gs3 : S3x1024x1024.Idx → F .fp8e4m3} {fg4 : S4x1024x1024.Idx → F .fp8e4m3} {fx8 : S4x1024x1024.Idx → F .f32} :
    recs m K ⊢ iprop(levAts L lv -∗
      Ow c (OS c 6) -∗
      cred (tallyAt (cell c (xk 4)) () (xN 4)) -∗
      atPos ER (cell c (xk 4)) 0 ∅ 0 -∗
      at' c cc0_scratch1 (ssend 0) gs3 -∗
      at' (dg c) cc0_scratch2 (gqtr c 0) fg4 -∗
      dutyTok ER (cell c (sk 0)) 0 0 -∗
      dutyTok ER (cell (dg c) (rk c 0)) 0 0 -∗
      at' c main_arg0 (xrow c 1) (xA m c) -∗
      at' c cc0_scratch0 (xdst 1) fx8 -∗
      dutyTok ER (cell c (xk 1)) 0 0 -∗
      (Ow c (OS c 5) -∗ semVal (cell c (xk 4)) 0 -∗ at' c cc0_scratch0 (xdst 4) (XST m c) -∗ at' c main_arg0 (xrow c 4) (xA m c) -∗ cred (tallyAt (cell c (sk 0)) () (sN 0)) -∗ cred (tallyAt (cell c (xk 1)) () (xN 1)) -∗ Q ⟨⟩)
      -∗ wpc c (k0_part3 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v13) Q) := by
  rw [k0_part3_eq_skeleton]; unfold k0_part3_skel
  simp only [Prog.lift, Prog.bind_op, Prog.bind_ret, Prog.pure_eq_ret, smemLoad, smemLoadElt]
  iintro #HR #Hl HO HCx4 HAx4 HS0 HG0 HTs0 HTr0 HX1 HD1 HTx1 Hk
  iapply (wp_xwt m c 4 sx4 (cr_eq _) 6) $$ HR Hl HCx4 HO HAx4
  iintro ⟨HO, HZx4, Hp⟩
  unfold xPay
  icases Hp with ⟨HD4, HX4⟩
  iapply (wp_ld c xstM (subset_of_eq (set_sl cc0_scratch0 _ _ _)) rfl) $$ HD4
  iintro HD4
  iapply (wp_ld c xsM (subset_of_eq (set_sl cc0_scratch1 _ _ _)) rfl) $$ HS0
  iintro HS0
  iapply (wp_st c xsM (S := ssend 0) (set_sl cc0_scratch1 _ _ _) (XS m c) ((xs_store (n := 256) m c 0 0 0 rfl _ _).trans (round_cast _ _ _).symm)) $$ HS0
  iintro HS0
  iapply (wp_ssnd m c (dg c) (dev5_eq c) 0 0 256 0 0 rfl (Or.inl (dg_dg c).symm) (k0_off4_eq c) rfl rfl (gqtr c 0) rfl (if_pos (dg_dg c).symm)
    rfl (rN_to_dg c) ss0 (sr3 c) (OS c 5) (OS c 6) rfl) $$ HR HS0 HG0 HO HTs0 HTr0
  iintro ⟨HCs0, HO⟩
  iapply (wp_xcp m c 1 c 1024 1 0 rfl rfl (off5_eq c) rfl rfl rfl sx1) $$ HR HX1 HD1 HTx1
  iintro HCx1
  iapply (wpc_ret (F := F) c _)
  iapply Hk $$ HO HZx4 HD4 HX4 HCs0 HCx1

/-- The copies of the neighbours' blocks are started. -/
theorem part4 (c : Dev nD) (v2 : BitVec 32) {Q : (Σ' (_ : BitVec 32) (_ : BitVec 32) (_ : BitVec 32), BitVec 32) → sProp 𝕄} {fx1 : S4x1024x1024.Idx → F .f32} {fx4 : S4x1024x1024.Idx → F .f32} :
    recs m K ⊢ iprop(levAts L lv -∗
      at' c main_arg0 (xrow c 2) (xA m c) -∗
      at' c cc0_scratch0 (xdst 2) fx1 -∗
      dutyTok ER (cell c (xk 2)) 0 0 -∗
      at' c main_arg0 (xrow c 3) (xA m c) -∗
      at' c cc0_scratch0 (xdst 3) fx4 -∗
      dutyTok ER (cell c (xk 3)) 0 0 -∗
      (cred (tallyAt (cell c (xk 2)) () (xN 2)) -∗ cred (tallyAt (cell c (xk 3)) () (xN 3)) -∗ (∀ a, Q a))
      -∗ wpc c (k0_part4 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2) Q) := by
  rw [k0_part4_eq_skeleton]; unfold k0_part4_skel
  simp only [Prog.lift, Prog.bind_op, Prog.bind_ret, Prog.pure_eq_ret, smemLoad, smemLoadElt]
  iintro #HR #Hl HX2 HD2 HTx2 HX3 HD3 HTx3 Hk
  iapply (wp_xcp m c 2 (nx c) 1024 2 0 rfl rfl (off6_1_eq c) rfl rfl rfl sx2) $$ HR HX2 HD2 HTx2
  iintro HCx2
  iapply (wp_xcp m c 3 (pv c) 1024 3 0 rfl rfl (off6_3_eq c) rfl rfl rfl sx3) $$ HR HX3 HD3 HTx3
  iintro HCx3
  iapply (wpc_ret (F := F) c _)
  iapply Hk $$ HCx2 HCx3

/-- The copies of the first two blocks of `w` are started. -/
theorem part5 (c : Dev nD) (v2 : BitVec 32) (v110 : BitVec 32) (v121 : BitVec 32) (v122 : BitVec 32) (v124 : BitVec 32) {Q : (Σ' (_ : BitVec 32), BitVec 32) → sProp 𝕄} {fw1 : S2x1024x2048.Idx → F .f32} {fw4 : S2x1024x2048.Idx → F .f32} :
    recs m K ⊢ iprop(levAts L lv -∗
      at' c main_arg1 (wrow c) (wA m c) -∗
      at' c cc0_scratch3 (wdst 0) fw1 -∗
      dutyTok ER (cell c (wk 0)) 0 0 -∗
      at' c main_arg1 (wrow (nx c)) (wA m c) -∗
      at' c cc0_scratch3 (wdst 1) fw4 -∗
      dutyTok ER (cell c (wk 1)) 0 0 -∗
      (cred (tallyAt (cell c (wk 0)) () (wN)) -∗ cred (tallyAt (cell c (wk 1)) () (wN)) -∗ (∀ a, Q a))
      -∗ wpc c (k0_part5 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 v110 v121 v122 v124) Q) := by
  rw [k0_part5_eq_skeleton]; unfold k0_part5_skel
  simp only [Prog.lift, Prog.bind_op, Prog.bind_ret, Prog.pure_eq_ret, smemLoad, smemLoadElt]
  iintro #HR #Hl HWc HE0 HTw0_0 HWn HE1 HTw1_0 Hk
  ihave ⟨-, #HRw0⟩ := (recs_at m K c (wk 0)) $$ HR
  iapply (wp_wcp m c 0 (by decide) 0 c rfl rfl (off7_0_eq c) sw0) $$ HR HRw0 HWc HE0 HTw0_0
  iintro HCw0
  ihave ⟨-, #HRw1⟩ := (recs_at m K c (wk 1)) $$ HR
  iapply (wp_wcp m c 0 (by decide) 1 (nx c) rfl rfl (off7_1_eq c) sw1) $$ HR HRw1 HWn HE1 HTw1_0
  iintro HCw1
  iapply (wpc_ret (F := F) c _)
  iapply Hk $$ HCw0 HCw1

/-- The second quarter for the opposite device is sent and the third rounded. -/
theorem part6 (c : Dev nD) (v13 : BitVec 32) {Q : BitVec 32 → sProp 𝕄} {gs3 : S3x1024x1024.Idx → F .fp8e4m3} {fg4 : S4x1024x1024.Idx → F .fp8e4m3} {gs7 : S3x1024x1024.Idx → F .fp8e4m3} :
    recs m K ⊢ iprop(levAts L lv -∗
      Ow c (OS c 5) -∗
      cred (tallyAt (cell c (xk 0)) () (xN 0)) -∗
      atPos ER (cell c (xk 0)) 0 ∅ 0 -∗
      at' c cc0_scratch1 (ssend 1) gs3 -∗
      at' (dg c) cc0_scratch2 (gqtr c 1) fg4 -∗
      dutyTok ER (cell c (sk 1)) 0 0 -∗
      dutyTok ER (cell (dg c) (rk c 1)) 0 0 -∗
      at' c cc0_scratch1 (ssend 2) gs7 -∗
      (Ow c (OS c 4) -∗ semVal (cell c (xk 0)) 0 -∗ at' c cc0_scratch0 (xdst 0) (XST m c) -∗ at' c main_arg0 (xrow c 0) (xA m c) -∗ cred (tallyAt (cell c (sk 1)) () (sN 1)) -∗ at' c cc0_scratch1 (ssend 2) (XS m c) -∗ (∀ a, Q a))
      -∗ wpc c (k0_part6 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v13) Q) := by
  rw [k0_part6_eq_skeleton]; unfold k0_part6_skel
  simp only [Prog.lift, Prog.bind_op, Prog.bind_ret, Prog.pure_eq_ret, smemLoad, smemLoadElt]
  iintro #HR #Hl HO HCx0 HAx0 HS1 HG1 HTs1 HTr1 HS2 Hk
  iapply (wp_xwt m c 0 sx0 (cr_eq _) 5) $$ HR Hl HCx0 HO HAx0
  iintro ⟨HO, HZx0, Hp⟩
  unfold xPay
  icases Hp with ⟨HD0, HX0⟩
  iapply (wp_ld c xstM (S := xdst 0) ((set_sl cc0_scratch0 _ _ _).trans_subset (xd0_sub 256 (by decide))) rfl) $$ HD0
  iintro HD0
  iapply (wp_ld c xsM (subset_of_eq (set_sl cc0_scratch1 _ _ _)) rfl) $$ HS1
  iintro HS1
  iapply (wp_st c xsM (S := ssend 1) (set_sl cc0_scratch1 _ _ _) (XS m c) ((xs_store (n := 256) m c 0 0 256 rfl _ _).trans (round_cast _ _ _).symm)) $$ HS1
  iintro HS1
  iapply (wp_ssnd m c (dg c) (dev6_eq c) 1 1 256 0 256 rfl (Or.inl (dg_dg c).symm) (k0_off9_eq c) rfl rfl (gqtr c 1) rfl (if_pos (dg_dg c).symm)
    rfl (rN_to_dg c) ss1 (sr8 c) (OS c 4) (OS c 5) rfl) $$ HR HS1 HG1 HO HTs1 HTr1
  iintro ⟨HCs1, HO⟩
  iapply (wp_ld c xstM (S := xdst 0) ((set_sl cc0_scratch0 _ _ _).trans_subset (xd0_sub 512 (by decide))) rfl) $$ HD0
  iintro HD0
  iapply (wp_ld c xsM (subset_of_eq (set_sl cc0_scratch1 _ _ _)) rfl) $$ HS2
  iintro HS2
  iapply (wp_st c xsM (S := ssend 2) (set_sl cc0_scratch1 _ _ _) (XS m c) ((xs_store (n := 256) m c 0 0 512 rfl _ _).trans (round_cast _ _ _).symm)) $$ HS2
  iintro HS2
  iapply (wpc_ret (F := F) c _)
  iapply Hk $$ HO HZx0 HD0 HX0 HCs1 HS2

/-- The last two quarters for the opposite device are sent. -/
theorem part7 (c : Dev nD) (v13 : BitVec 32) (w : BitVec 32) {Q : PUnit → sProp 𝕄} {fg2 : S4x1024x1024.Idx → F .fp8e4m3} {gs6 : S3x1024x1024.Idx → F .fp8e4m3} {fg7 : S4x1024x1024.Idx → F .fp8e4m3} :
    recs m K ⊢ iprop(levAts L lv -∗
      Ow c (OS c 4) -∗
      at' c cc0_scratch1 (ssend 2) (XS m c) -∗
      at' (dg c) cc0_scratch2 (gqtr c 2) fg2 -∗
      dutyTok ER (cell c (sk 2)) 0 0 -∗
      dutyTok ER (cell (dg c) (rk c 2)) 0 0 -∗
      at' c cc0_scratch0 (xdst 0) (XST m c) -∗
      at' c cc0_scratch1 (ssend 3) gs6 -∗
      at' (dg c) cc0_scratch2 (gqtr c 3) fg7 -∗
      dutyTok ER (cell c (sk 3)) 0 0 -∗
      dutyTok ER (cell (dg c) (rk c 3)) 0 0 -∗
      cred (tallyAt (cell c (xk 1)) () (xN 1)) -∗
      atPos ER (cell c (xk 1)) 0 ∅ 0 -∗
      (Ow c (OS c 2) -∗ cred (tallyAt (cell c (sk 2)) () (sN 2)) -∗ at' c cc0_scratch0 (xdst 0) (XST m c) -∗ cred (tallyAt (cell c (sk 3)) () (sN 3)) -∗ semVal (cell c (xk 1)) 0 -∗ at' c cc0_scratch0 (xdst 1) (XST m c) -∗ at' c main_arg0 (xrow c 1) (xA m c) -∗ Q ⟨⟩)
      -∗ wpc c (k0_part7 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v13 w) Q) := by
  rw [k0_part7_eq_skeleton]; unfold k0_part7_skel
  simp only [Prog.lift, Prog.bind_op, Prog.bind_ret, Prog.pure_eq_ret, smemLoad, smemLoadElt]
  iintro #HR #Hl HO HS2 HG2 HTs2 HTr2 HD0 HS3 HG3 HTs3 HTr3 HCx1 HAx1 Hk
  iapply (wp_ssnd m c (dg c) (dev7_eq c) 2 2 256 0 512 rfl (Or.inl (dg_dg c).symm) (k0_off11_eq c) rfl rfl (gqtr c 2) rfl (if_pos (dg_dg c).symm)
    rfl (rN_to_dg c) ss2 (sr10 c) (OS c 3) (OS c 4) rfl) $$ HR HS2 HG2 HO HTs2 HTr2
  iintro ⟨HCs2, HO⟩
  iapply (wp_ld c xstM (S := xdst 0) ((set_sl cc0_scratch0 _ _ _).trans_subset (xd0_sub 768 (by decide))) rfl) $$ HD0
  iintro HD0
  iapply (wp_ld c xsM (subset_of_eq (set_sl cc0_scratch1 _ _ _)) rfl) $$ HS3
  iintro HS3
  iapply (wp_st c xsM (S := ssend 3) (set_sl cc0_scratch1 _ _ _) (XS m c) ((xs_store (n := 256) m c 0 0 768 rfl _ _).trans (round_cast _ _ _).symm)) $$ HS3
  iintro HS3
  iapply (wp_ssnd m c (dg c) (dev8_eq c) 3 3 256 0 768 rfl (Or.inl (dg_dg c).symm) (k0_off13_eq c) rfl rfl (gqtr c 3) rfl (if_pos (dg_dg c).symm)
    rfl (rN_to_dg c) ss3 (sr12 c) (OS c 2) (OS c 3) rfl) $$ HR HS3 HG3 HO HTs3 HTr3
  iintro ⟨HCs3, HO⟩
  iapply (wp_xwt m c 1 sx1 (cr_eq _) 2) $$ HR Hl HCx1 HO HAx1
  iintro ⟨HO, HZx1, Hp⟩
  unfold xPay
  icases Hp with ⟨HD1, HX1⟩
  iapply (wpc_ret (F := F) c _)
  iapply Hk $$ HO HCs2 HD0 HCs3 HZx1 HD1 HX1

/-- The own block is rounded into its slot, the next device's block rounded and sent. -/
theorem part8 (c : Dev nD) (v2 : BitVec 32) (v24 : BitVec 32) {Q : PUnit → sProp 𝕄} {fg2 : S4x1024x1024.Idx → F .fp8e4m3} {gs5 : S3x1024x1024.Idx → F .fp8e4m3} {fg6 : S4x1024x1024.Idx → F .fp8e4m3} :
    recs m K ⊢ iprop(levAts L lv -∗
      Ow c (OS c 2) -∗
      at' c cc0_scratch0 (xdst 1) (XST m c) -∗
      at' c cc0_scratch2 (gslot c) fg2 -∗
      cred (tallyAt (cell c (xk 2)) () (xN 2)) -∗
      atPos ER (cell c (xk 2)) 0 ∅ 0 -∗
      at' c cc0_scratch1 (ssend 4) gs5 -∗
      at' (nx c) cc0_scratch2 (gslot c) fg6 -∗
      dutyTok ER (cell c (sk 4)) 0 0 -∗
      dutyTok ER (cell (nx c) (rk c 0)) 0 0 -∗
      (Ow c (OS c 1) -∗ at' c cc0_scratch0 (xdst 1) (XST m c) -∗ at' c cc0_scratch2 (gslot c) (XG m c) -∗ semVal (cell c (xk 2)) 0 -∗ at' c cc0_scratch0 (xdst 2) (XST m c) -∗ at' c main_arg0 (xrow c 2) (xA m c) -∗ cred (tallyAt (cell c (sk 4)) () (sN 4)) -∗ Q ⟨⟩)
      -∗ wpc c (k0_part8 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 v24) Q) := by
  rw [k0_part8_eq_skeleton]; unfold k0_part8_skel
  simp only [Prog.lift, Prog.bind_op, Prog.bind_ret, Prog.pure_eq_ret, smemLoad, smemLoadElt]
  iintro #HR #Hl HO HD1 HGo HCx2 HAx2 HS4 HGn HTs4 HTrn Hk
  iapply (wp_ld c xstM (subset_of_eq (set_sl cc0_scratch0 _ _ _)) rfl) $$ HD1
  iintro HD1
  have hg : (xgM.access (Rect.unit (s := S4x1024x1024) (k0_off14 c) S1x1024x1024.size (k0_off14_inb c))).set = gslot c :=
    (set_sl cc0_scratch2 _ _ _).trans (congrArg (fun o => box S4x1024x1024 o ![1, 1024, 1024]) (k0_off14_eq c))
  iapply (wp_ld c xgM (S := gslot c) (subset_of_eq hg) rfl) $$ HGo
  iintro HGo
  iapply (wp_st c xgM (S := gslot c) hg (XG m c) ((xg_store m c _ (k0_off14_eq c) _ _).trans (round_cast _ _ _).symm)) $$ HGo
  iintro HGo
  iapply (wp_xwt m c 2 sx2 (cr_eq _) 2) $$ HR Hl HCx2 HO HAx2
  iintro ⟨HO, HZx2, Hp⟩
  unfold xPay
  icases Hp with ⟨HD2, HX2⟩
  iapply (wp_ld c xstM (subset_of_eq (set_sl cc0_scratch0 _ _ _)) rfl) $$ HD2
  iintro HD2
  iapply (wp_ld c xsM (subset_of_eq (set_sl cc0_scratch1 _ _ _)) rfl) $$ HS4
  iintro HS4
  iapply (wp_st c xsM (S := ssend 4) (set_sl cc0_scratch1 _ _ _) (XS m c) ((xs_store (n := 1024) m c 1 2 0 rfl _ _).trans (round_cast _ _ _).symm)) $$ HS4
  iintro HS4
  iapply (wp_ssnd m c (nx c) (dev9_eq c) 4 0 1024 1 0 rfl (Or.inr ⟨rfl, (nx_ne c).symm⟩) (k0_off15_eq c) rfl rfl (gslot c) rfl (if_neg (ne_dg_nx c))
    rfl (if_neg (ne_dg_nx c)) ss4 (sr3 c) (OS c 1) (OS c 2) rfl) $$ HR HS4 HGn HO HTs4 HTrn
  iintro ⟨HCs4, HO⟩
  iapply (wpc_ret (F := F) c _)
  iapply Hk $$ HO HD1 HGo HZx2 HD2 HX2 HCs4

/-- The previous device's block is rounded and sent; the two scales are read and the first block of `w` waited for. -/
theorem part9 (c : Dev nD) (v35 : BitVec 32) {Q : F .f32 → sProp 𝕄} {gs3 : S3x1024x1024.Idx → F .fp8e4m3} {fg4 : S4x1024x1024.Idx → F .fp8e4m3} :
    recs m K ⊢ iprop(levAts L lv -∗
      Ow c (OS c 1) -∗
      cred (tallyAt (cell c (xk 3)) () (xN 3)) -∗
      atPos ER (cell c (xk 3)) 0 ∅ 0 -∗
      at' c cc0_scratch1 (ssend 5) gs3 -∗
      at' (pv c) cc0_scratch2 (gslot c) fg4 -∗
      dutyTok ER (cell c (sk 5)) 0 0 -∗
      dutyTok ER (cell (pv c) (rk c 0)) 0 0 -∗
      at' c cc0_stg0_0 Finset.univ (s2 m c) -∗
      at' c cc0_stg1_0 Finset.univ (s3 m c) -∗
      cred (tallyAt (cell c (wk 0)) () (wN)) -∗
      atPos ER (cell c (wk 0)) 0 ∅ 0 -∗
      (Ow c (OS c 0) -∗ semVal (cell c (xk 3)) 0 -∗ at' c cc0_scratch0 (xdst 3) (XST m c) -∗ at' c main_arg0 (xrow c 3) (xA m c) -∗ cred (tallyAt (cell c (sk 5)) () (sN 5)) -∗ at' c cc0_stg0_0 Finset.univ (s2 m c) -∗ at' c cc0_stg1_0 Finset.univ (s3 m c) -∗ atPos ER (cell c (wk 0)) 1 ∅ 0 -∗ reached ER (cell c (wk 0)) 1 -∗ at' c cc0_scratch3 (wdst 0) (WST m c 0) -∗ at' c main_arg1 (wrow c) (wA m c) -∗ Q (sc m c))
      -∗ wpc c (k0_part9 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v35) Q) := by
  rw [k0_part9_eq_skeleton]; unfold k0_part9_skel
  simp only [Prog.lift, Prog.bind_op, Prog.bind_ret, Prog.pure_eq_ret, smemLoad, smemLoadElt]
  iintro #HR #Hl HO HCx3 HAx3 HS5 HGp HTs5 HTrp HP2 HP3 HCw0 HAw0 Hk
  iapply (wp_xwt m c 3 sx3 (cr_eq _) 1) $$ HR Hl HCx3 HO HAx3
  iintro ⟨HO, HZx3, Hp⟩
  unfold xPay
  icases Hp with ⟨HD3, HX3⟩
  iapply (wp_ld c xstM (subset_of_eq (set_sl cc0_scratch0 _ _ _)) rfl) $$ HD3
  iintro HD3
  iapply (wp_ld c xsM (subset_of_eq (set_sl cc0_scratch1 _ _ _)) rfl) $$ HS5
  iintro HS5
  iapply (wp_st c xsM (S := ssend 5) (set_sl cc0_scratch1 _ _ _) (XS m c) ((xs_store (n := 1024) m c 2 3 0 rfl _ _).trans (round_cast _ _ _).symm)) $$ HS5
  iintro HS5
  iapply (wp_ssnd m c (pv c) (dev10_eq c) 5 0 1024 2 0 rfl (Or.inr ⟨rfl, (pv_ne c).symm⟩) (k0_off15_eq c) rfl rfl (gslot c) rfl (if_neg (ne_dg_pv c))
    rfl (if_neg (ne_dg_pv c)) ss5 (sr3 c) (OS c 0) (OS c 1) (zero_add _).symm) $$ HR HS5 HGp HO HTs5 HTrp
  iintro ⟨HCs5, HO⟩
  iapply (wp_ld c (Memref.whole cc0_stg0_0 : Memref sig .tc .smem S1 .f32) (r := Rect.unit (s := S1) ![0] S1.size inb_S1_S1_0) (S := Finset.univ) (Finset.subset_univ _) (smem_read2 m c _)) $$ HP2
  iintro HP2
  iapply (wp_ld c (Memref.whole cc0_stg1_0 : Memref sig .tc .smem S1 .f32) (r := Rect.unit (s := S1) ![0] S1.size inb_S1_S1_0) (S := Finset.univ) (Finset.subset_univ _) (smem_read3 m c _)) $$ HP3
  iintro HP3
  iapply (wp_wwt m c 0 0 (by decide) sw0 (cr_eq _) 0) $$ HR Hl HCw0 HO HAw0
  iintro ⟨HO, HAw0, HRw0, Hp⟩
  ihave Hp' := (Entails.of_eq (wPay_00 m c)) $$ Hp
  icases Hp' with ⟨HE0, HWc⟩
  simp only [sc]
  iapply (wpc_ret (F := F) c _)
  iapply Hk $$ HO HZx3 HD3 HX3 HCs5 HP2 HP3 HAw0 HRw0 HE0 HWc

end Cert.V07
-- ==== Proof.PartsB.lean ====
/-
The steps of the kernel, part by part: the products and the copies out.
-/
module

public import proofs.«01_k».proof.Proof.PartsA

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {K : Dev nD × Fin 34 → ℕ}

/-- The product with the own block. -/
theorem part10 (c : Dev nD) (v110 : BitVec 32) {Q : FVec F S1024x2048 .fp8e4m3 → sProp 𝕄} {fv2 : S4x1024x2048.Idx → F .fp8e4m3} {fa7 : S1024x2048.Idx → F .f32} :
    recs m K ⊢ iprop(levAts L lv -∗
      Ow c (OS c 0) -∗
      at' c cc0_scratch3 (wdst 0) (WST m c 0) -∗
      at' c cc0_scratch4 (vdst 0) fv2 -∗
      at' c main_arg1 (wrow (pv c)) (wA m c) -∗
      dutyTok ER (cell c (wk 0)) 1 0 -∗
      reached ER (cell c (wk 0)) 1 -∗
      at' c cc0_scratch2 (gslot c) (XG m c) -∗
      at' c cc0_scratch5 Finset.univ fa7 -∗
      cred (tallyAt (cell c (wk 1)) () (wN)) -∗
      atPos ER (cell c (wk 1)) 0 ∅ 0 -∗
      (Ow c (OS c 0) -∗ at' c cc0_scratch4 (vdst 0) (W8 m c) -∗ cred (tallyAt (cell c (wk 0)) () (wN)) -∗ at' c cc0_scratch2 (gslot c) (XG m c) -∗ at' c cc0_scratch5 Finset.univ (ACC0 m c) -∗ atPos ER (cell c (wk 1)) 1 ∅ 0 -∗ reached ER (cell c (wk 1)) 1 -∗ at' c cc0_scratch3 (wdst 1) (WST m c 0) -∗ at' c main_arg1 (wrow (nx c)) (wA m c) -∗ Q (w1 m c))
      -∗ wpc c (k0_part10 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v110 (sc m c)) Q) := by
  rw [k0_part10_eq_skeleton]; unfold k0_part10_skel
  simp only [Prog.lift, Prog.bind_op, Prog.bind_ret, Prog.pure_eq_ret, smemLoad, smemLoadElt]
  iintro #HR #Hl HO HE0 HV0 HWp HTw0_1 HRw0 HGo HA HCw1 HAw1 Hk
  iapply (wp_ld c wstM (S := wdst 0) (subset_of_eq (set_sl cc0_scratch3 _ _ _)) rfl) $$ HE0
  iintro HE0
  iapply (wp_ld c w8M (S := vdst 0) (subset_of_eq (set_sl cc0_scratch4 _ _ _)) rfl) $$ HV0
  iintro HV0
  iapply (wp_st c w8M (S := vdst 0) (set_sl cc0_scratch4 _ _ _) (W8 m c) ((w8_store m c 0 0 0 rfl _ _).trans (round_cast _ _ _).symm)) $$ HV0
  iintro HV0
  iapply (wp_wcp m c 1 (by decide) 0 (pv c) rfl rfl (off7_3_eq c) sw0) $$ HR HRw0 HWp HE0 HTw0_1
  iintro HCw0
  have hg0 : (xgM.access (Rect.unit (s := S4x1024x1024) (k0_off16 c 0#32) S1x1024x1024.size (k0_off16_inb c 0))).set = gslot c :=
    (set_sl cc0_scratch2 _ _ _).trans (congrArg (fun o => box S4x1024x1024 o ![1, 1024, 1024]) (off16_0_eq c))
  iapply (wp_ld c xgM (S := gslot c) (subset_of_eq hg0) (g_load m c c _ (off16_0_eq c) _)) $$ HGo
  iintro HGo
  iapply (wp_ld c w8M (S := vdst 0) (subset_of_eq (set_sl cc0_scratch4 _ _ _)) (w_load m c 0 _)) $$ HV0
  iintro HV0
  iapply (wp_ld c acM (S := Finset.univ) (r := Rect.unit (s := S1024x2048) ![0, 0] S1024x2048.size inb_S1024x2048_S1024x2048_0_0) (Finset.subset_univ _) rfl) $$ HA
  iintro HA
  iapply (wp_st c acM (S := Finset.univ) (r := Rect.unit (s := S1024x2048) ![0, 0] S1024x2048.size inb_S1024x2048_S1024x2048_0_0) (ac_univ _) (ACC0 m c) (ac_read _ _)) $$ HA
  iintro HA
  iapply (wp_wwt m c 1 0 (by decide) sw1 (cr_eq _) 0) $$ HR Hl HCw1 HO HAw1
  iintro ⟨HO, HAw1, HRw1, Hp⟩
  ihave Hp' := (Entails.of_eq (wPay_01 m c)) $$ Hp
  icases Hp' with ⟨HE1, HWn⟩
  iapply (wp_ld c wstM (S := wdst 1) (subset_of_eq (set_sl cc0_scratch3 _ _ _)) rfl) $$ HE1
  iintro HE1
  simp only [w1]
  iapply (wpc_ret (F := F) c _)
  iapply Hk $$ HO HV0 HCw0 HGo HA HAw1 HRw1 HE1 HWn

/-- The product with the next device's block is added. -/
theorem part11 (c : Dev nD) (v121 : BitVec 32) {Q : PUnit → sProp 𝕄} {fv1 : S4x1024x2048.Idx → F .fp8e4m3} :
    recs m K ⊢ iprop(levAts L lv -∗
      Ow c (OS c 0) -∗
      at' c cc0_scratch4 (vdst 1) fv1 -∗
      at' c cc0_scratch3 (wdst 1) (WST m c 0) -∗
      at' c main_arg1 (wrow (dg c)) (wA m c) -∗
      dutyTok ER (cell c (wk 1)) 1 0 -∗
      reached ER (cell c (wk 1)) 1 -∗
      cred (tallyAt (cell c (rk (nx c) 0)) () (rN c (nx c))) -∗
      atPos ER (cell c (rk (nx c) 0)) 0 ∅ 0 -∗
      at' c cc0_scratch5 Finset.univ (ACC0 m c) -∗
      (Ow c (OS c 0) -∗ at' c cc0_scratch4 (vdst 1) (W8 m c) -∗ cred (tallyAt (cell c (wk 1)) () (wN)) -∗ semVal (cell c (rk (nx c) 0)) 0 -∗ at' c cc0_scratch2 (gslot (nx c)) (XG m c) -∗ at' c cc0_scratch5 Finset.univ (ACC1 m c) -∗ Q ⟨⟩)
      -∗ wpc c (k0_part11 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v121 (sc m c) (w1 m c)) Q) := by
  rw [k0_part11_eq_skeleton]; unfold k0_part11_skel
  simp only [Prog.lift, Prog.bind_op, Prog.bind_ret, Prog.pure_eq_ret, smemLoad, smemLoadElt]
  iintro #HR #Hl HO HV1 HE1 HWd HTw1_1 HRw1 HCrn HArn HA Hk
  iapply (wp_ld c w8M (S := vdst 1) (subset_of_eq (set_sl cc0_scratch4 _ _ _)) rfl) $$ HV1
  iintro HV1
  iapply (wp_st c w8M (S := vdst 1) (set_sl cc0_scratch4 _ _ _) (W8 m c) ((w8_store m c 0 1 1 rfl _ _).trans (round_cast _ _ _).symm)) $$ HV1
  iintro HV1
  iapply (wp_wcp m c 1 (by decide) 1 (dg c) rfl rfl (off7_2_eq c) sw1) $$ HR HRw1 HWd HE1 HTw1_1
  iintro HCw1
  iapply (wp_rwt m c (nx c) 0 (Or.inr ⟨rfl, nx_ne c⟩) (sr17_1 c) ((cr_eq _).trans (rN_nx c).symm)) $$ HR Hl HCrn HO HArn
  iintro ⟨HO, HZrn, Hp⟩
  ihave HHn := (Entails.of_eq (rPay_nx m c)) $$ Hp
  have hg1 : (xgM.access (Rect.unit (s := S4x1024x1024) (k0_off16 c 1#32) S1x1024x1024.size (k0_off16_inb c 1))).set = gslot (nx c) :=
    (set_sl cc0_scratch2 _ _ _).trans (congrArg (fun o => box S4x1024x1024 o ![1, 1024, 1024]) (off16_1_eq c))
  iapply (wp_ld c xgM (S := gslot (nx c)) (subset_of_eq hg1) (g_load m c (nx c) _ (off16_1_eq c) _)) $$ HHn
  iintro HHn
  iapply (wp_ld c w8M (S := vdst 1) (subset_of_eq (set_sl cc0_scratch4 _ _ _)) (w_load m c 1 _)) $$ HV1
  iintro HV1
  iapply (wp_ld c acM (S := Finset.univ) (r := Rect.unit (s := S1024x2048) ![0, 0] S1024x2048.size inb_S1024x2048_S1024x2048_0_0) (Finset.subset_univ _) (acc_load _ _)) $$ HA
  iintro HA
  iapply (wp_ld c acM (S := Finset.univ) (r := Rect.unit (s := S1024x2048) ![0, 0] S1024x2048.size inb_S1024x2048_S1024x2048_0_0) (Finset.subset_univ _) rfl) $$ HA
  iintro HA
  iapply (wp_st c acM (S := Finset.univ) (r := Rect.unit (s := S1024x2048) ![0, 0] S1024x2048.size inb_S1024x2048_S1024x2048_0_0) (ac_univ _) (ACC1 m c) (ac_read _ _)) $$ HA
  iintro HA
  iapply (wpc_ret (F := F) c _)
  iapply Hk $$ HO HV1 HCw1 HZrn HHn HA

/-- The product with the previous device's block. -/
theorem part12 (c : Dev nD) (v132 : BitVec 32) {Q : FVec F S1024x2048 .f32 → sProp 𝕄} {fv3 : S4x1024x2048.Idx → F .fp8e4m3} :
    recs m K ⊢ iprop(levAts L lv -∗
      Ow c (OS c 0) -∗
      cred (tallyAt (cell c (wk 0)) () (wN)) -∗
      atPos ER (cell c (wk 0)) 1 ∅ 0 -∗
      at' c cc0_scratch4 (vdst 2) fv3 -∗
      cred (tallyAt (cell c (rk (pv c) 0)) () (rN c (pv c))) -∗
      atPos ER (cell c (rk (pv c) 0)) 0 ∅ 0 -∗
      at' c cc0_scratch5 Finset.univ (ACC1 m c) -∗
      (Ow c (OS c 0) -∗ atPos ER (cell c (wk 0)) 2 ∅ 0 -∗ at' c cc0_scratch3 (wdst 0) (WST m c 1) -∗ at' c main_arg1 (wrow (pv c)) (wA m c) -∗ at' c cc0_scratch4 (vdst 2) (W8 m c) -∗ semVal (cell c (rk (pv c) 0)) 0 -∗ at' c cc0_scratch2 (gslot (pv c)) (XG m c) -∗ at' c cc0_scratch5 Finset.univ (ACC1 m c) -∗ Q (ACC2 m c))
      -∗ wpc c (k0_part12 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v132 (sc m c)) Q) := by
  rw [k0_part12_eq_skeleton]; unfold k0_part12_skel
  simp only [Prog.lift, Prog.bind_op, Prog.bind_ret, Prog.pure_eq_ret, smemLoad, smemLoadElt]
  iintro #HR #Hl HO HCw0 HAw0 HV2 HCrp HArp HA Hk
  iapply (wp_wwt m c 0 1 (by decide) sw0 (cr_eq _) 0) $$ HR Hl HCw0 HO HAw0
  iintro ⟨HO, HAw0, HRw0, Hp⟩
  ihave Hp' := (Entails.of_eq (wPay_10 m c)) $$ Hp
  icases Hp' with ⟨HE0, HWp⟩
  iapply (wp_ld c wstM (S := wdst 0) (subset_of_eq (set_sl cc0_scratch3 _ _ _)) rfl) $$ HE0
  iintro HE0
  iapply (wp_ld c w8M (S := vdst 2) (subset_of_eq (set_sl cc0_scratch4 _ _ _)) rfl) $$ HV2
  iintro HV2
  iapply (wp_st c w8M (S := vdst 2) (set_sl cc0_scratch4 _ _ _) (W8 m c) ((w8_store m c 1 0 2 rfl _ _).trans (round_cast _ _ _).symm)) $$ HV2
  iintro HV2
  iapply (wp_rwt m c (pv c) 0 (Or.inr ⟨rfl, pv_ne c⟩) (sr17_3 c) ((cr_eq _).trans (rN_pv c).symm)) $$ HR Hl HCrp HO HArp
  iintro ⟨HO, HZrp, Hp⟩
  ihave HHp := (Entails.of_eq (rPay_pv m c)) $$ Hp
  have hg3 : (xgM.access (Rect.unit (s := S4x1024x1024) (k0_off16 c 3#32) S1x1024x1024.size (k0_off16_inb c 2))).set = gslot (pv c) :=
    (set_sl cc0_scratch2 _ _ _).trans (congrArg (fun o => box S4x1024x1024 o ![1, 1024, 1024]) (off16_3_eq c))
  iapply (wp_ld c xgM (S := gslot (pv c)) (subset_of_eq hg3) (g_load m c (pv c) _ (off16_3_eq c) _)) $$ HHp
  iintro HHp
  iapply (wp_ld c w8M (S := vdst 2) (subset_of_eq (set_sl cc0_scratch4 _ _ _)) (w_load m c 2 _)) $$ HV2
  iintro HV2
  iapply (wp_ld c acM (S := Finset.univ) (r := Rect.unit (s := S1024x2048) ![0, 0] S1024x2048.size inb_S1024x2048_S1024x2048_0_0) (Finset.subset_univ _) (acc_load _ _)) $$ HA
  iintro HA
  simp only [ACC2]
  iapply (wpc_ret (F := F) c _)
  iapply Hk $$ HO HAw0 HE0 HWp HV2 HZrp HHp HA

/-- The product with the previous device's block is added; the opposite device's first quarter is waited for. -/
theorem part13 (c : Dev nD) (v143 : BitVec 32) {Q : (Σ' (v383 : Vec F S256x2048 .f32) (v386 : FVec F S256x1024 .fp8e4m3) (v388 : FVec F S1024x2048 .fp8e4m3), FVec F S256x2048 .f32) → sProp 𝕄} {fv4 : S4x1024x2048.Idx → F .fp8e4m3} :
    recs m K ⊢ iprop(levAts L lv -∗
      Ow c (OS c 0) -∗
      at' c cc0_scratch5 Finset.univ (ACC1 m c) -∗
      cred (tallyAt (cell c (wk 1)) () (wN)) -∗
      atPos ER (cell c (wk 1)) 1 ∅ 0 -∗
      at' c cc0_scratch4 (vdst 3) fv4 -∗
      cred (tallyAt (cell c (rk (dg c) 0)) () (rN c (dg c))) -∗
      atPos ER (cell c (rk (dg c) 0)) 0 ∅ 0 -∗
      (Ow c (OS c 0) -∗ at' c cc0_scratch5 Finset.univ (ACC2 m c) -∗ atPos ER (cell c (wk 1)) 2 ∅ 0 -∗ at' c cc0_scratch3 (wdst 1) (WST m c 1) -∗ at' c main_arg1 (wrow (dg c)) (wA m c) -∗ at' c cc0_scratch4 (vdst 3) (W8 m c) -∗ semVal (cell c (rk (dg c) 0)) 0 -∗ at' c cc0_scratch2 (gqtr (dg c) 0) (XG m c) -∗ Q ⟨accQ m c 0, k0_pay18 (gQ m c 0), k0_pay19 (wL m c 3), constant S256x2048 .f32 0x00000000#32⟩)
      -∗ wpc c (k0_part13 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v143 (ACC2 m c)) Q) := by
  rw [k0_part13_eq_skeleton]; unfold k0_part13_skel
  simp only [Prog.lift, Prog.bind_op, Prog.bind_ret, Prog.pure_eq_ret, smemLoad, smemLoadElt]
  iintro #HR #Hl HO HA HCw1 HAw1 HV3 HCr0 HAr0 Hk
  iapply (wp_ld c acM (S := Finset.univ) (r := Rect.unit (s := S1024x2048) ![0, 0] S1024x2048.size inb_S1024x2048_S1024x2048_0_0) (Finset.subset_univ _) rfl) $$ HA
  iintro HA
  iapply (wp_st c acM (S := Finset.univ) (r := Rect.unit (s := S1024x2048) ![0, 0] S1024x2048.size inb_S1024x2048_S1024x2048_0_0) (ac_univ _) (ACC2 m c) ((ac_read _ _).trans (shapeCast_self _ _).symm)) $$ HA
  iintro HA
  iapply (wp_wwt m c 1 1 (by decide) sw1 (cr_eq _) 0) $$ HR Hl HCw1 HO HAw1
  iintro ⟨HO, HAw1, HRw1, Hp⟩
  ihave Hp' := (Entails.of_eq (wPay_11 m c)) $$ Hp
  icases Hp' with ⟨HE1, HWd⟩
  iapply (wp_ld c wstM (S := wdst 1) (subset_of_eq (set_sl cc0_scratch3 _ _ _)) rfl) $$ HE1
  iintro HE1
  iapply (wp_ld c w8M (S := vdst 3) (subset_of_eq (set_sl cc0_scratch4 _ _ _)) rfl) $$ HV3
  iintro HV3
  iapply (wp_st c w8M (S := vdst 3) (set_sl cc0_scratch4 _ _ _) (W8 m c) ((w8_store m c 1 1 3 rfl _ _).trans (round_cast _ _ _).symm)) $$ HV3
  iintro HV3
  iapply (wp_rwt m c (dg c) 0 (Or.inl rfl) (sr17_2 c) ((cr_eq _).trans (rN_dg c).symm)) $$ HR Hl HCr0 HO HAr0
  iintro ⟨HO, HZr0, Hp⟩
  ihave HH0 := (Entails.of_eq (rPay_dg m c 0)) $$ Hp
  iapply (wp_ld c acM (S := Finset.univ) (r := Rect.unit (s := S1024x2048) ![0, 0] S256x2048.size inb_S1024x2048_S256x2048_0_0) (Finset.subset_univ _) (accq_load m c 0 0 rfl _)) $$ HA
  iintro HA
  have hq0 : (xgM.access (Rect.unit (s := S4x1024x1024) (k0_off20 c) S1x256x1024.size (k0_off20_inb c))).set = gqtr (dg c) 0 :=
    (set_sl cc0_scratch2 _ _ _).trans (congrArg (fun o => box S4x1024x1024 o ![1, 256, 1024]) (off20_eq c))
  iapply (wp_ld c xgM (S := gqtr (dg c) 0) (subset_of_eq hq0) (gq_load m c 0 _ (off20_eq c) _)) $$ HH0
  iintro HH0
  iapply (wp_ld c w8M (S := vdst 3) (subset_of_eq (set_sl cc0_scratch4 _ _ _)) (w_load m c 3 _)) $$ HV3
  iintro HV3
  iapply (wpc_ret (F := F) c _)
  iapply Hk $$ HO HA HAw1 HE1 HWd HV3 HZr0 HH0

/-- The first quarter of the result is stored and copied out; the second is computed. -/
theorem part14 (c : Dev nD) (v143 : BitVec 32) {Q : FVec F S256x2048 .f32 → sProp 𝕄} {fo2 : S1024x2048.Idx → F .f32} :
    recs m K ⊢ iprop(levAts L lv -∗
      Ow c (OS c 0) -∗
      at' c cc0_scratch5 (oq 0) (ACC2 m c) -∗
      at' c main_v1 (oq 0) fo2 -∗
      dutyTok ER (cell c (ok 0)) 0 0 -∗
      cred (tallyAt (cell c (rk (dg c) 1)) () (rN c (dg c))) -∗
      atPos ER (cell c (rk (dg c) 1)) 0 ∅ 0 -∗
      at' c cc0_scratch5 (oq 1) (ACC2 m c) -∗
      at' c cc0_scratch4 (vdst 3) (W8 m c) -∗
      (Ow c (OS c 0) -∗ cred (tallyAt (cell c (ok 0)) () (oN)) -∗ semVal (cell c (rk (dg c) 1)) 0 -∗ at' c cc0_scratch2 (gqtr (dg c) 1) (XG m c) -∗ at' c cc0_scratch5 (oq 1) (ACC2 m c) -∗ at' c cc0_scratch4 (vdst 3) (W8 m c) -∗ Q (k0_pay21 (sc m c) (accQ m c 1) (gQ m c 1) (wL m c 3)))
      -∗ wpc c (k0_part14 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v143 (sc m c) (accQ m c 0) (k0_pay18 (gQ m c 0)) (k0_pay19 (wL m c 3)) (constant S256x2048 .f32 0x00000000#32)) Q) := by
  rw [k0_part14_eq_skeleton]; unfold k0_part14_skel
  simp only [Prog.lift, Prog.bind_op, Prog.bind_ret, Prog.pure_eq_ret, smemLoad, smemLoadElt]
  iintro #HR #Hl HO HQ0 HU0 HTo0 HCr1 HAr1 HQ1 HV3 Hk
  iapply (wp_ld c acM (S := oq 0) (subset_of_eq (set_sl cc0_scratch5 _ _ _)) rfl) $$ HQ0
  iintro HQ0
  iapply (wp_st c acM (S := oq 0) (set_sl cc0_scratch5 _ _ _) (OUT m c) ((outq_store m c 0 0 rfl _).trans rfl)) $$ HQ0
  iintro HQ0
  iapply (wp_ocp m c 0 rfl so0) $$ HR HQ0 HU0 HTo0
  iintro HCo0
  iapply (wp_rwt m c (dg c) 1 (Or.inl rfl) (sr21 c) ((cr_eq _).trans (rN_dg c).symm)) $$ HR Hl HCr1 HO HAr1
  iintro ⟨HO, HZr1, Hp⟩
  ihave HH1 := (Entails.of_eq (rPay_dg m c 1)) $$ Hp
  iapply (wp_ld c acM (S := oq 1) (subset_of_eq (set_sl cc0_scratch5 _ _ _)) (accq_load m c 1 256 rfl _)) $$ HQ1
  iintro HQ1
  have hq1 : (xgM.access (Rect.unit (s := S4x1024x1024) (k0_off23 c) S1x256x1024.size (k0_off23_inb c))).set = gqtr (dg c) 1 :=
    (set_sl cc0_scratch2 _ _ _).trans (congrArg (fun o => box S4x1024x1024 o ![1, 256, 1024]) (off23_eq c))
  iapply (wp_ld c xgM (S := gqtr (dg c) 1) (subset_of_eq hq1) (gq_load m c 1 _ (off23_eq c) _)) $$ HH1
  iintro HH1
  iapply (wp_ld c w8M (S := vdst 3) (subset_of_eq (set_sl cc0_scratch4 _ _ _)) (w_load m c 3 _)) $$ HV3
  iintro HV3
  iapply (wp_ld c acM (S := oq 1) (subset_of_eq (set_sl cc0_scratch5 _ _ _)) rfl) $$ HQ1
  iintro HQ1
  iapply (wpc_ret (F := F) c _)
  iapply Hk $$ HO HCo0 HZr1 HH1 HQ1 HV3

/-- The second quarter is copied out and the third stored. -/
theorem part15 (c : Dev nD) (v143 : BitVec 32) {Q : PUnit → sProp 𝕄} {fo2 : S1024x2048.Idx → F .f32} :
    recs m K ⊢ iprop(levAts L lv -∗
      Ow c (OS c 0) -∗
      at' c cc0_scratch5 (oq 1) (ACC2 m c) -∗
      at' c main_v1 (oq 1) fo2 -∗
      dutyTok ER (cell c (ok 1)) 0 0 -∗
      cred (tallyAt (cell c (rk (dg c) 2)) () (rN c (dg c))) -∗
      atPos ER (cell c (rk (dg c) 2)) 0 ∅ 0 -∗
      at' c cc0_scratch5 (oq 2) (ACC2 m c) -∗
      at' c cc0_scratch4 (vdst 3) (W8 m c) -∗
      (Ow c (OS c 0) -∗ cred (tallyAt (cell c (ok 1)) () (oN)) -∗ semVal (cell c (rk (dg c) 2)) 0 -∗ at' c cc0_scratch2 (gqtr (dg c) 2) (XG m c) -∗ at' c cc0_scratch5 (oq 2) (OUT m c) -∗ at' c cc0_scratch4 (vdst 3) (W8 m c) -∗ Q ⟨⟩)
      -∗ wpc c (k0_part15 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v143 (sc m c) (k0_pay21 (sc m c) (accQ m c 1) (gQ m c 1) (wL m c 3))) Q) := by
  rw [k0_part15_eq_skeleton]; unfold k0_part15_skel
  simp only [Prog.lift, Prog.bind_op, Prog.bind_ret, Prog.pure_eq_ret, smemLoad, smemLoadElt]
  iintro #HR #Hl HO HQ1 HU1 HTo1 HCr2 HAr2 HQ2 HV3 Hk
  iapply (wp_st c acM (S := oq 1) (set_sl cc0_scratch5 _ _ _) (OUT m c) ((outq_store m c 1 256 rfl _).trans rfl)) $$ HQ1
  iintro HQ1
  iapply (wp_ocp m c 1 rfl so1) $$ HR HQ1 HU1 HTo1
  iintro HCo1
  iapply (wp_rwt m c (dg c) 2 (Or.inl rfl) (sr24 c) ((cr_eq _).trans (rN_dg c).symm)) $$ HR Hl HCr2 HO HAr2
  iintro ⟨HO, HZr2, Hp⟩
  ihave HH2 := (Entails.of_eq (rPay_dg m c 2)) $$ Hp
  iapply (wp_ld c acM (S := oq 2) (subset_of_eq (set_sl cc0_scratch5 _ _ _)) (accq_load m c 2 512 rfl _)) $$ HQ2
  iintro HQ2
  have hq2 : (xgM.access (Rect.unit (s := S4x1024x1024) (k0_off26 c) S1x256x1024.size (k0_off26_inb c))).set = gqtr (dg c) 2 :=
    (set_sl cc0_scratch2 _ _ _).trans (congrArg (fun o => box S4x1024x1024 o ![1, 256, 1024]) (off26_eq c))
  iapply (wp_ld c xgM (S := gqtr (dg c) 2) (subset_of_eq hq2) (gq_load m c 2 _ (off26_eq c) _)) $$ HH2
  iintro HH2
  iapply (wp_ld c w8M (S := vdst 3) (subset_of_eq (set_sl cc0_scratch4 _ _ _)) (w_load m c 3 _)) $$ HV3
  iintro HV3
  iapply (wp_ld c acM (S := oq 2) (subset_of_eq (set_sl cc0_scratch5 _ _ _)) rfl) $$ HQ2
  iintro HQ2
  iapply (wp_st c acM (S := oq 2) (set_sl cc0_scratch5 _ _ _) (OUT m c) ((outq_store m c 2 512 rfl _).trans rfl)) $$ HQ2
  iintro HQ2
  iapply (wpc_ret (F := F) c _)
  iapply Hk $$ HO HCo1 HZr2 HH2 HQ2 HV3

/-- The last two quarters are copied out. -/
theorem part16 (c : Dev nD) (v143 : BitVec 32) {Q : PUnit → sProp 𝕄} {fo2 : S1024x2048.Idx → F .f32} {fo8 : S1024x2048.Idx → F .f32} :
    recs m K ⊢ iprop(levAts L lv -∗
      Ow c (OS c 0) -∗
      at' c cc0_scratch5 (oq 2) (OUT m c) -∗
      at' c main_v1 (oq 2) fo2 -∗
      dutyTok ER (cell c (ok 2)) 0 0 -∗
      cred (tallyAt (cell c (rk (dg c) 3)) () (rN c (dg c))) -∗
      atPos ER (cell c (rk (dg c) 3)) 0 ∅ 0 -∗
      at' c cc0_scratch5 (oq 3) (ACC2 m c) -∗
      at' c cc0_scratch4 (vdst 3) (W8 m c) -∗
      at' c main_v1 (oq 3) fo8 -∗
      dutyTok ER (cell c (ok 3)) 0 0 -∗
      (Ow c (OS c 0) -∗ cred (tallyAt (cell c (ok 2)) () (oN)) -∗ semVal (cell c (rk (dg c) 3)) 0 -∗ at' c cc0_scratch2 (gqtr (dg c) 3) (XG m c) -∗ at' c cc0_scratch4 (vdst 3) (W8 m c) -∗ cred (tallyAt (cell c (ok 3)) () (oN)) -∗ Q ⟨⟩)
      -∗ wpc c (k0_part16 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v143 (sc m c)) Q) := by
  rw [k0_part16_eq_skeleton]; unfold k0_part16_skel
  simp only [Prog.lift, Prog.bind_op, Prog.bind_ret, Prog.pure_eq_ret, smemLoad, smemLoadElt]
  iintro #HR #Hl HO HQ2 HU2 HTo2 HCr3 HAr3 HQ3 HV3 HU3 HTo3 Hk
  iapply (wp_ocp m c 2 rfl so2) $$ HR HQ2 HU2 HTo2
  iintro HCo2
  iapply (wp_rwt m c (dg c) 3 (Or.inl rfl) (sr27 c) ((cr_eq _).trans (rN_dg c).symm)) $$ HR Hl HCr3 HO HAr3
  iintro ⟨HO, HZr3, Hp⟩
  ihave HH3 := (Entails.of_eq (rPay_dg m c 3)) $$ Hp
  iapply (wp_ld c acM (S := oq 3) (subset_of_eq (set_sl cc0_scratch5 _ _ _)) (accq_load m c 3 768 rfl _)) $$ HQ3
  iintro HQ3
  have hq3 : (xgM.access (Rect.unit (s := S4x1024x1024) (k0_off29 c) S1x256x1024.size (k0_off29_inb c))).set = gqtr (dg c) 3 :=
    (set_sl cc0_scratch2 _ _ _).trans (congrArg (fun o => box S4x1024x1024 o ![1, 256, 1024]) (off29_eq c))
  iapply (wp_ld c xgM (S := gqtr (dg c) 3) (subset_of_eq hq3) (gq_load m c 3 _ (off29_eq c) _)) $$ HH3
  iintro HH3
  iapply (wp_ld c w8M (S := vdst 3) (subset_of_eq (set_sl cc0_scratch4 _ _ _)) (w_load m c 3 _)) $$ HV3
  iintro HV3
  iapply (wp_ld c acM (S := oq 3) (subset_of_eq (set_sl cc0_scratch5 _ _ _)) rfl) $$ HQ3
  iintro HQ3
  iapply (wp_st c acM (S := oq 3) (set_sl cc0_scratch5 _ _ _) (OUT m c) ((outq_store m c 3 768 rfl _).trans rfl)) $$ HQ3
  iintro HQ3
  iapply (wp_ocp m c 3 rfl so3) $$ HR HQ3 HU3 HTo3
  iintro HCo3
  iapply (wpc_ret (F := F) c _)
  iapply Hk $$ HO HCo2 HZr3 HH3 HV3 HCo3

/-- The sends to the opposite device are waited for. -/
theorem part17 (c : Dev nD)  {Q : PUnit → sProp 𝕄}  :
    recs m K ⊢ iprop(levAts L lv -∗
      Ow c (OS c 0) -∗
      cred (tallyAt (cell c (sk 0)) () (sN 0)) -∗
      atPos ER (cell c (sk 0)) 0 ∅ 0 -∗
      cred (tallyAt (cell c (sk 1)) () (sN 1)) -∗
      atPos ER (cell c (sk 1)) 0 ∅ 0 -∗
      cred (tallyAt (cell c (sk 2)) () (sN 2)) -∗
      atPos ER (cell c (sk 2)) 0 ∅ 0 -∗
      cred (tallyAt (cell c (sk 3)) () (sN 3)) -∗
      atPos ER (cell c (sk 3)) 0 ∅ 0 -∗
      (Ow c (OS c 0) -∗ semVal (cell c (sk 0)) 0 -∗ at' c cc0_scratch1 (ssend 0) (XS m c) -∗ semVal (cell c (sk 1)) 0 -∗ at' c cc0_scratch1 (ssend 1) (XS m c) -∗ semVal (cell c (sk 2)) 0 -∗ at' c cc0_scratch1 (ssend 2) (XS m c) -∗ semVal (cell c (sk 3)) 0 -∗ at' c cc0_scratch1 (ssend 3) (XS m c) -∗ Q ⟨⟩)
      -∗ wpc c (k0_part17 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c) Q) := by
  rw [k0_part17_eq_skeleton]; unfold k0_part17_skel
  simp only [Prog.lift, Prog.bind_op, Prog.bind_ret, Prog.pure_eq_ret, smemLoad, smemLoadElt]
  iintro #HR #Hl HO HCs0 HAs0 HCs1 HAs1 HCs2 HAs2 HCs3 HAs3 Hk
  iapply (wp_swt m c 0 ss0 (cr_eq _)) $$ HR Hl HCs0 HO HAs0
  iintro ⟨HO, HZs0, HS0⟩
  unfold sPay
  iapply (wp_swt m c 1 ss1 (cr_eq _)) $$ HR Hl HCs1 HO HAs1
  iintro ⟨HO, HZs1, HS1⟩
  unfold sPay
  iapply (wp_swt m c 2 ss2 (cr_eq _)) $$ HR Hl HCs2 HO HAs2
  iintro ⟨HO, HZs2, HS2⟩
  unfold sPay
  iapply (wp_swt m c 3 ss3 (cr_eq _)) $$ HR Hl HCs3 HO HAs3
  iintro ⟨HO, HZs3, HS3⟩
  unfold sPay
  iapply (wpc_ret (F := F) c _)
  iapply Hk $$ HO HZs0 HS0 HZs1 HS1 HZs2 HS2 HZs3 HS3

/-- The sends to the neighbours and the first three copies out are waited for. -/
theorem part18 (c : Dev nD)  {Q : PUnit → sProp 𝕄}  :
    recs m K ⊢ iprop(levAts L lv -∗
      Ow c (OS c 0) -∗
      cred (tallyAt (cell c (sk 4)) () (sN 4)) -∗
      atPos ER (cell c (sk 4)) 0 ∅ 0 -∗
      cred (tallyAt (cell c (sk 5)) () (sN 5)) -∗
      atPos ER (cell c (sk 5)) 0 ∅ 0 -∗
      cred (tallyAt (cell c (ok 0)) () (oN)) -∗
      atPos ER (cell c (ok 0)) 0 ∅ 0 -∗
      cred (tallyAt (cell c (ok 1)) () (oN)) -∗
      atPos ER (cell c (ok 1)) 0 ∅ 0 -∗
      cred (tallyAt (cell c (ok 2)) () (oN)) -∗
      atPos ER (cell c (ok 2)) 0 ∅ 0 -∗
      (Ow c (OS c 0) -∗ semVal (cell c (sk 4)) 0 -∗ at' c cc0_scratch1 (ssend 4) (XS m c) -∗ semVal (cell c (sk 5)) 0 -∗ at' c cc0_scratch1 (ssend 5) (XS m c) -∗ semVal (cell c (ok 0)) 0 -∗ at' c main_v1 (oq 0) (OUT m c) -∗ at' c cc0_scratch5 (oq 0) (OUT m c) -∗ semVal (cell c (ok 1)) 0 -∗ at' c main_v1 (oq 1) (OUT m c) -∗ at' c cc0_scratch5 (oq 1) (OUT m c) -∗ semVal (cell c (ok 2)) 0 -∗ at' c main_v1 (oq 2) (OUT m c) -∗ at' c cc0_scratch5 (oq 2) (OUT m c) -∗ Q ⟨⟩)
      -∗ wpc c (k0_part18 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c) Q) := by
  rw [k0_part18_eq_skeleton]; unfold k0_part18_skel
  simp only [Prog.lift, Prog.bind_op, Prog.bind_ret, Prog.pure_eq_ret, smemLoad, smemLoadElt]
  iintro #HR #Hl HO HCs4 HAs4 HCs5 HAs5 HCo0 HAo0 HCo1 HAo1 HCo2 HAo2 Hk
  iapply (wp_swt m c 4 ss4 (cr_eq _)) $$ HR Hl HCs4 HO HAs4
  iintro ⟨HO, HZs4, HS4⟩
  unfold sPay
  iapply (wp_swt m c 5 ss5 (cr_eq _)) $$ HR Hl HCs5 HO HAs5
  iintro ⟨HO, HZs5, HS5⟩
  unfold sPay
  iapply (wp_owt m c 0 so0 (cr_eq _)) $$ HR Hl HCo0 HO HAo0
  iintro ⟨HO, HZo0, Hp⟩
  unfold oPay
  icases Hp with ⟨HU0, HQ0⟩
  iapply (wp_owt m c 1 so1 (cr_eq _)) $$ HR Hl HCo1 HO HAo1
  iintro ⟨HO, HZo1, Hp⟩
  unfold oPay
  icases Hp with ⟨HU1, HQ1⟩
  iapply (wp_owt m c 2 so2 (cr_eq _)) $$ HR Hl HCo2 HO HAo2
  iintro ⟨HO, HZo2, Hp⟩
  unfold oPay
  icases Hp with ⟨HU2, HQ2⟩
  iapply (wpc_ret (F := F) c _)
  iapply Hk $$ HO HZs4 HS4 HZs5 HS5 HZo0 HU0 HQ0 HZo1 HU1 HQ1 HZo2 HU2 HQ2

end Cert.V07
-- ==== Proof.Split.lean ====
/-
The buffers cut into the pieces the transfers move, and put together again.
-/
module

public import proofs.«01_k».proof.Proof.PartsB

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {K : Dev nD × Fin 34 → ℕ}

theorem mem_box3 {A B C : ℕ} {a b c x y z : ℕ} (i : (⟨3, ![A, B, C]⟩ : Shape).Idx) :
    i ∈ box ⟨3, ![A, B, C]⟩ ![a, b, c] ![x, y, z]
      ↔ (a ≤ (i 0).val ∧ (i 0).val < a + x) ∧ (b ≤ (i 1).val ∧ (i 1).val < b + y) ∧ (c ≤ (i 2).val ∧ (i 2).val < c + z) := by
  rw [mem_box]
  constructor
  · intro h; exact ⟨h 0, h 1, h 2⟩
  · rintro ⟨h0, h1, h2⟩ t
    fin_cases t
    exacts [h0, h1, h2]

theorem mem_box2 {A B : ℕ} {a b x y : ℕ} (i : (⟨2, ![A, B]⟩ : Shape).Idx) :
    i ∈ box ⟨2, ![A, B]⟩ ![a, b] ![x, y] ↔ (a ≤ (i 0).val ∧ (i 0).val < a + x) ∧ (b ≤ (i 1).val ∧ (i 1).val < b + y) := by
  rw [mem_box]
  constructor
  · intro h; exact ⟨h 0, h 1⟩
  · rintro ⟨h0, h1⟩ t
    fin_cases t
    exacts [h0, h1]

/-- The devices, from one on. -/
theorem devs (c : Dev nD) (Φ : Dev nD → sProp 𝕄) : bigSep Finset.univ Φ = iprop(Φ c ∗ Φ (nx c) ∗ Φ (pv c) ∗ Φ (dg c)) :=
  (bigSep_univ_eq_bigSepL [c, nx c, pv c, dg c] (by revert c; decide) (by revert c; decide) Φ).trans rfl
/-- The devices in order. -/
theorem devs4 (Φ : Fin 4 → sProp 𝕄) : bigSep Finset.univ Φ = iprop(Φ 0 ∗ Φ 1 ∗ Φ 2 ∗ Φ 3) :=
  (bigSep_univ_eq_bigSepL [0, 1, 2, 3] (by decide) (by decide) Φ).trans rfl

/-- The rows of `x` of block `d`. -/
def xblk (d : Dev nD) : Finset S4096x1024.Idx := box S4096x1024 ![1024 * d.val, 0] ![1024, 1024]

/-- An assertion about a set of a device's buffer is the family of those about the classes of a classifier. -/
theorem at_cover (c : Dev nD) (b : Ref sig .tc) {n : ℕ} (S : Finset b.ty.shape.Idx) (K : Fin n → Finset b.ty.shape.Idx)
    (pos : b.ty.shape.Idx → Fin n) (h : ∀ i j, i ∈ K j ↔ i ∈ S ∧ pos i = j) (f : b.ty.Contents (Elt F)) :
    at' c b S f = bigSep Finset.univ fun j => at' c b (K j) f :=
  pts_cover (ℓ := (c : Thread nD τ).loc b) (F := F) (U := UU) S K pos h fullShare f

/-- The block a row of `x` is of. -/
def arg0Pos (i : S4096x1024.Idx) : Fin 4 :=
  have h0 : (i 0).val < 4096 := (i 0).isLt
  have h1 : (i 1).val < 1024 := (i 1).isLt
  ⟨(i 0).val / 1024, by omega⟩
theorem arg0_mem (i : S4096x1024.Idx) (j : Fin 4) : i ∈ xblk j ↔ i ∈ (Finset.univ : Finset S4096x1024.Idx) ∧ arg0Pos i = j := by
  have h0 : (i 0).val < 4096 := (i 0).isLt
  have h1 : (i 1).val < 1024 := (i 1).isLt
  have hj : j.val < 4 := j.isLt
  refine (mem_box2 i).trans ?_
  simp only [arg0Pos, Finset.mem_univ, true_and, Fin.ext_iff]
  omega
theorem arg0_split (c : Dev nD) (f : S4096x1024.Idx → F .f32) :
    at' c main_arg0 (Finset.univ) f = bigSep Finset.univ fun j : Fin 4 => at' c main_arg0 (xblk j) f :=
  at_cover c main_arg0 (Finset.univ) (xblk) arg0Pos (arg0_mem ) f

/-- The block a row of `w` is of. -/
def arg1Pos (i : S4096x2048.Idx) : Fin 4 :=
  have h0 : (i 0).val < 4096 := (i 0).isLt
  have h1 : (i 1).val < 2048 := (i 1).isLt
  ⟨(i 0).val / 1024, by omega⟩
theorem arg1_mem (i : S4096x2048.Idx) (j : Fin 4) : i ∈ wrow j ↔ i ∈ (Finset.univ : Finset S4096x2048.Idx) ∧ arg1Pos i = j := by
  have h0 : (i 0).val < 4096 := (i 0).isLt
  have h1 : (i 1).val < 2048 := (i 1).isLt
  have hj : j.val < 4 := j.isLt
  refine (mem_box2 i).trans ?_
  simp only [arg1Pos, Finset.mem_univ, true_and, Fin.ext_iff]
  omega
theorem arg1_split (c : Dev nD) (f : S4096x2048.Idx → F .f32) :
    at' c main_arg1 (Finset.univ) f = bigSep Finset.univ fun j : Fin 4 => at' c main_arg1 (wrow j) f :=
  at_cover c main_arg1 (Finset.univ) (wrow) arg1Pos (arg1_mem ) f

/-- The quarter of the result a row is of. -/
def oqPos (i : S1024x2048.Idx) : Fin 4 :=
  have h0 : (i 0).val < 1024 := (i 0).isLt
  have h1 : (i 1).val < 2048 := (i 1).isLt
  ⟨(i 0).val / 256, by omega⟩
theorem oq_mem (i : S1024x2048.Idx) (j : Fin 4) : i ∈ oq j ↔ i ∈ (Finset.univ : Finset S1024x2048.Idx) ∧ oqPos i = j := by
  have h0 : (i 0).val < 1024 := (i 0).isLt
  have h1 : (i 1).val < 2048 := (i 1).isLt
  have hj : j.val < 4 := j.isLt
  refine (mem_box2 i).trans ?_
  simp only [oqPos, Finset.mem_univ, true_and, Fin.ext_iff]
  omega
theorem v1_cover (c : Dev nD) (f : S1024x2048.Idx → F .f32) :
    at' c main_v1 (Finset.univ) f = bigSep Finset.univ fun j : Fin 4 => at' c main_v1 (oq j) f :=
  at_cover c main_v1 (Finset.univ) (oq) oqPos (oq_mem ) f
theorem acc_cover (c : Dev nD) (f : S1024x2048.Idx → F .f32) :
    at' c cc0_scratch5 (Finset.univ) f = bigSep Finset.univ fun j : Fin 4 => at' c cc0_scratch5 (oq j) f :=
  at_cover c cc0_scratch5 (Finset.univ) (oq) oqPos (oq_mem ) f

/-- The transfer that fills an element of the staging buffer of `x`. -/
def xstPos (i : S4x1024x1024.Idx) : Fin 5 :=
  have h0 : (i 0).val < 4 := (i 0).isLt
  have h1 : (i 1).val < 1024 := (i 1).isLt
  have h2 : (i 2).val < 1024 := (i 2).isLt
  ⟨if (i 0).val = 0 then (if (i 1).val < 256 then 4 else 0) else (i 0).val, by split <;> (try split) <;> omega⟩
theorem xst_mem (i : S4x1024x1024.Idx) (j : Fin 5) : i ∈ xdst j ↔ i ∈ (Finset.univ : Finset S4x1024x1024.Idx) ∧ xstPos i = j := by
  have h0 : (i 0).val < 4 := (i 0).isLt
  have h1 : (i 1).val < 1024 := (i 1).isLt
  have h2 : (i 2).val < 1024 := (i 2).isLt
  have hj : j.val < 5 := j.isLt
  simp only [xstPos, Finset.mem_univ, true_and, Fin.ext_iff]
  fin_cases j <;> refine (mem_box3 i).trans ?_ <;> simp only [] <;> split <;> (try split) <;> omega
theorem xst_cover (c : Dev nD) (f : S4x1024x1024.Idx → F .f32) :
    at' c cc0_scratch0 (Finset.univ) f = bigSep Finset.univ fun j : Fin 5 => at' c cc0_scratch0 (xdst j) f :=
  at_cover c cc0_scratch0 (Finset.univ) (xdst) xstPos (xst_mem ) f

/-- The send that takes an element of the send buffer. -/
def xsPos (i : S3x1024x1024.Idx) : Fin 6 :=
  have h0 : (i 0).val < 3 := (i 0).isLt
  have h1 : (i 1).val < 1024 := (i 1).isLt
  have h2 : (i 2).val < 1024 := (i 2).isLt
  ⟨if (i 0).val = 0 then (i 1).val / 256 else (i 0).val + 3, by split <;> omega⟩
theorem xs_mem (i : S3x1024x1024.Idx) (j : Fin 6) : i ∈ ssend j ↔ i ∈ (Finset.univ : Finset S3x1024x1024.Idx) ∧ xsPos i = j := by
  have h0 : (i 0).val < 3 := (i 0).isLt
  have h1 : (i 1).val < 1024 := (i 1).isLt
  have h2 : (i 2).val < 1024 := (i 2).isLt
  have hj : j.val < 6 := j.isLt
  simp only [xsPos, Finset.mem_univ, true_and, Fin.ext_iff]
  fin_cases j <;> refine (mem_box3 i).trans ?_ <;> simp only [] <;> split <;> omega
theorem xs_cover (c : Dev nD) (f : S3x1024x1024.Idx → F .fp8e4m3) :
    at' c cc0_scratch1 (Finset.univ) f = bigSep Finset.univ fun j : Fin 6 => at' c cc0_scratch1 (ssend j) f :=
  at_cover c cc0_scratch1 (Finset.univ) (ssend) xsPos (xs_mem ) f

/-- The slot of an element of the gathered buffer. -/
def xgPos (i : S4x1024x1024.Idx) : Fin 4 :=
  have h0 : (i 0).val < 4 := (i 0).isLt
  have h1 : (i 1).val < 1024 := (i 1).isLt
  have h2 : (i 2).val < 1024 := (i 2).isLt
  ⟨(i 0).val, by omega⟩
theorem xg_mem (i : S4x1024x1024.Idx) (j : Fin 4) : i ∈ gslot j ↔ i ∈ (Finset.univ : Finset S4x1024x1024.Idx) ∧ xgPos i = j := by
  have h0 : (i 0).val < 4 := (i 0).isLt
  have h1 : (i 1).val < 1024 := (i 1).isLt
  have h2 : (i 2).val < 1024 := (i 2).isLt
  have hj : j.val < 4 := j.isLt
  refine (mem_box3 i).trans ?_
  simp only [xgPos, Finset.mem_univ, true_and, Fin.ext_iff]
  omega
theorem xg_split (c : Dev nD) (f : S4x1024x1024.Idx → F .fp8e4m3) :
    at' c cc0_scratch2 (Finset.univ) f = bigSep Finset.univ fun j : Fin 4 => at' c cc0_scratch2 (gslot j) f :=
  at_cover c cc0_scratch2 (Finset.univ) (gslot) xgPos (xg_mem ) f

/-- The quarter of a slot of the gathered buffer an element is of. -/
def gqPos (i : S4x1024x1024.Idx) : Fin 4 :=
  have h0 : (i 0).val < 4 := (i 0).isLt
  have h1 : (i 1).val < 1024 := (i 1).isLt
  have h2 : (i 2).val < 1024 := (i 2).isLt
  ⟨(i 1).val / 256, by omega⟩
theorem gq_mem (d : Dev nD) (i : S4x1024x1024.Idx) (j : Fin 4) : i ∈ gqtr d j ↔ i ∈ (gslot d : Finset S4x1024x1024.Idx) ∧ gqPos i = j := by
  have h0 : (i 0).val < 4 := (i 0).isLt
  have h1 : (i 1).val < 1024 := (i 1).isLt
  have h2 : (i 2).val < 1024 := (i 2).isLt
  have hj : j.val < 4 := j.isLt
  have e : i ∈ gslot d ↔ _ := mem_box3 i
  rw [e]
  refine (mem_box3 i).trans ?_
  simp only [gqPos, Fin.ext_iff]
  omega
theorem gslot_cover (d : Dev nD) (c : Dev nD) (f : S4x1024x1024.Idx → F .fp8e4m3) :
    at' c cc0_scratch2 (gslot d) f = bigSep Finset.univ fun j : Fin 4 => at' c cc0_scratch2 (gqtr d j) f :=
  at_cover c cc0_scratch2 (gslot d) (gqtr d) gqPos (gq_mem d) f

/-- The slot of an element of the staging buffer of `w`. -/
def wstPos (i : S2x1024x2048.Idx) : Fin 2 :=
  have h0 : (i 0).val < 2 := (i 0).isLt
  have h1 : (i 1).val < 1024 := (i 1).isLt
  have h2 : (i 2).val < 2048 := (i 2).isLt
  ⟨(i 0).val, by omega⟩
theorem wst_mem (i : S2x1024x2048.Idx) (j : Fin 2) : i ∈ wdst j ↔ i ∈ (Finset.univ : Finset S2x1024x2048.Idx) ∧ wstPos i = j := by
  have h0 : (i 0).val < 2 := (i 0).isLt
  have h1 : (i 1).val < 1024 := (i 1).isLt
  have h2 : (i 2).val < 2048 := (i 2).isLt
  have hj : j.val < 2 := j.isLt
  refine (mem_box3 i).trans ?_
  simp only [wstPos, Finset.mem_univ, true_and, Fin.ext_iff]
  omega
theorem wst_cover (c : Dev nD) (f : S2x1024x2048.Idx → F .f32) :
    at' c cc0_scratch3 (Finset.univ) f = bigSep Finset.univ fun j : Fin 2 => at' c cc0_scratch3 (wdst j) f :=
  at_cover c cc0_scratch3 (Finset.univ) (wdst) wstPos (wst_mem ) f

/-- The block of an element of the rounded `w`. -/
def w8Pos (i : S4x1024x2048.Idx) : Fin 4 :=
  have h0 : (i 0).val < 4 := (i 0).isLt
  have h1 : (i 1).val < 1024 := (i 1).isLt
  have h2 : (i 2).val < 2048 := (i 2).isLt
  ⟨(i 0).val, by omega⟩
theorem w8_mem (i : S4x1024x2048.Idx) (j : Fin 4) : i ∈ (fun t : Fin 4 => vdst t.val) j ↔ i ∈ (Finset.univ : Finset S4x1024x2048.Idx) ∧ w8Pos i = j := by
  have h0 : (i 0).val < 4 := (i 0).isLt
  have h1 : (i 1).val < 1024 := (i 1).isLt
  have h2 : (i 2).val < 2048 := (i 2).isLt
  have hj : j.val < 4 := j.isLt
  refine (mem_box3 i).trans ?_
  show _ ↔ _
  simp only [w8Pos, Finset.mem_univ, true_and, Fin.ext_iff]
  omega
theorem w8_cover (c : Dev nD) (f : S4x1024x2048.Idx → F .fp8e4m3) :
    at' c cc0_scratch4 (Finset.univ) f = bigSep Finset.univ fun j : Fin 4 => at' c cc0_scratch4 ((fun t : Fin 4 => vdst t.val) j) f :=
  at_cover c cc0_scratch4 (Finset.univ) ((fun t : Fin 4 => vdst t.val)) w8Pos (w8_mem ) f

/-- Which of the two transfers of the block of the device opposite takes a row of it. -/
def xbPos (c : Dev nD) (i : S4096x1024.Idx) : Fin 2 := ⟨if 1024 * (dg c).val + 256 ≤ (i 0).val then 0 else 1, by split <;> omega⟩
theorem xb_mem (c : Dev nD) (i : S4096x1024.Idx) (j : Fin 2) :
    i ∈ (![xrow c 0, xrow c 4] : Fin 2 → Finset S4096x1024.Idx) j ↔ i ∈ xblk (dg c) ∧ xbPos c i = j := by
  have h0 : (i 0).val < 4096 := (i 0).isLt
  have h1 : (i 1).val < 1024 := (i 1).isLt
  have e : i ∈ xblk (dg c) ↔ _ := mem_box2 i
  rw [e]
  simp only [xbPos, Fin.ext_iff]
  fin_cases j
  · refine Iff.trans (show i ∈ xrow c 0 ↔ _ from mem_box2 i) ?_
    simp only []
    split <;> omega
  · refine Iff.trans (show i ∈ xrow c 4 ↔ _ from mem_box2 i) ?_
    simp only []
    split <;> omega
theorem xblk_split (c : Dev nD) (f : S4096x1024.Idx → F .f32) :
    at' c main_arg0 (xblk (dg c)) f = iprop(at' c main_arg0 (xrow c 0) f ∗ at' c main_arg0 (xrow c 4) f) :=
  (at_cover c main_arg0 (xblk (dg c)) ![xrow c 0, xrow c 4] (xbPos c) (xb_mem c) f).trans
    ((bigSep_univ_eq_bigSepL [0, 1] (by decide) (by decide) _).trans rfl)

theorem v1_split (c : Dev nD) (f : S1024x2048.Idx → F .f32) :
    at' c main_v1 (Finset.univ) f = iprop(at' c main_v1 (oq 0) f ∗ at' c main_v1 (oq 1) f ∗ at' c main_v1 (oq 2) f ∗ at' c main_v1 (oq 3) f) :=
  (v1_cover c f).trans ((bigSep_univ_eq_bigSepL [0, 1, 2, 3] (by decide) (by decide) _).trans rfl)
theorem acc_split (c : Dev nD) (f : S1024x2048.Idx → F .f32) :
    at' c cc0_scratch5 (Finset.univ) f = iprop(at' c cc0_scratch5 (oq 0) f ∗ at' c cc0_scratch5 (oq 1) f ∗ at' c cc0_scratch5 (oq 2) f ∗ at' c cc0_scratch5 (oq 3) f) :=
  (acc_cover c f).trans ((bigSep_univ_eq_bigSepL [0, 1, 2, 3] (by decide) (by decide) _).trans rfl)
theorem xst_split (c : Dev nD) (f : S4x1024x1024.Idx → F .f32) :
    at' c cc0_scratch0 (Finset.univ) f = iprop(at' c cc0_scratch0 (xdst 0) f ∗ at' c cc0_scratch0 (xdst 1) f ∗ at' c cc0_scratch0 (xdst 2) f ∗ at' c cc0_scratch0 (xdst 3) f ∗ at' c cc0_scratch0 (xdst 4) f) :=
  (xst_cover c f).trans ((bigSep_univ_eq_bigSepL [0, 1, 2, 3, 4] (by decide) (by decide) _).trans rfl)
theorem xs_split (c : Dev nD) (f : S3x1024x1024.Idx → F .fp8e4m3) :
    at' c cc0_scratch1 (Finset.univ) f = iprop(at' c cc0_scratch1 (ssend 0) f ∗ at' c cc0_scratch1 (ssend 1) f ∗ at' c cc0_scratch1 (ssend 2) f ∗ at' c cc0_scratch1 (ssend 3) f ∗ at' c cc0_scratch1 (ssend 4) f ∗ at' c cc0_scratch1 (ssend 5) f) :=
  (xs_cover c f).trans ((bigSep_univ_eq_bigSepL [0, 1, 2, 3, 4, 5] (by decide) (by decide) _).trans rfl)
theorem gslot_split (d : Dev nD) (c : Dev nD) (f : S4x1024x1024.Idx → F .fp8e4m3) :
    at' c cc0_scratch2 (gslot d) f = iprop(at' c cc0_scratch2 (gqtr d 0) f ∗ at' c cc0_scratch2 (gqtr d 1) f ∗ at' c cc0_scratch2 (gqtr d 2) f ∗ at' c cc0_scratch2 (gqtr d 3) f) :=
  (gslot_cover d c f).trans ((bigSep_univ_eq_bigSepL [0, 1, 2, 3] (by decide) (by decide) _).trans rfl)
theorem wst_split (c : Dev nD) (f : S2x1024x2048.Idx → F .f32) :
    at' c cc0_scratch3 (Finset.univ) f = iprop(at' c cc0_scratch3 (wdst 0) f ∗ at' c cc0_scratch3 (wdst 1) f) :=
  (wst_cover c f).trans ((bigSep_univ_eq_bigSepL [0, 1] (by decide) (by decide) _).trans rfl)
theorem w8_split (c : Dev nD) (f : S4x1024x2048.Idx → F .fp8e4m3) :
    at' c cc0_scratch4 (Finset.univ) f = iprop(at' c cc0_scratch4 (vdst 0) f ∗ at' c cc0_scratch4 (vdst 1) f ∗ at' c cc0_scratch4 (vdst 2) f ∗ at' c cc0_scratch4 (vdst 3) f) :=
  (w8_cover c f).trans ((bigSep_univ_eq_bigSepL [0, 1, 2, 3] (by decide) (by decide) _).trans rfl)

/-- The semaphores of a device, by use. -/
def ksOf (c : Dev nD) : List (Fin 34) :=
  [0, xk 0, xk 1, xk 2, xk 3, xk 4, wk 0, wk 1, ok 0, ok 1, ok 2, ok 3, sk 0, sk 1, sk 2, sk 3, sk 4, sk 5,
   rk (dg c) 0, rk (dg c) 1, rk (dg c) 2, rk (dg c) 3, rk (nx c) 0, rk (pv c) 0,
   rk c 0, rk c 1, rk c 2, rk c 3, rk (nx c) 1, rk (nx c) 2, rk (nx c) 3, rk (pv c) 1, rk (pv c) 2, rk (pv c) 3]

theorem cells_split (c : Dev nD) (Φ : Fin 34 → sProp 𝕄) : bigSep Finset.univ Φ = bigSepL (ksOf c) Φ :=
  bigSep_univ_eq_bigSepL (ksOf c) (by revert c; decide +kernel) (by revert c; decide +kernel) Φ

end Cert.V07
-- ==== Proof.Body.lean ====
/-
The kernel's body, from what its device holds at the start to what it holds at the end.
-/
module

public import proofs.«01_k».proof.Proof.Split

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {K : Dev nD × Fin 34 → ℕ}

/-- One program after another. -/
theorem wpc_bind {α β : Type} (c : Dev nD) (p : Prog (TpuEff nD τ sig (Elt F) Λ₀ .tc) α) (k : α → Prog (TpuEff nD τ sig (Elt F) Λ₀ .tc) β)
    {Q : β → sProp 𝕄} : wpc c p (fun a => wpc c (k a) Q) ⊢ wpc c (p >>= k) Q := by
  show _ ⊢ wp _ _ _ (p >>= k) Q
  rw [wp_bind]

/-- The first part reads the device's number; the words computed from it are not used by any rule. -/
theorem part1 (c : Dev nD) {Q : (Σ' (d0 : Dev nD) (v2 : BitVec 32) (v13 : BitVec 32) (v24 : BitVec 32), BitVec 32) → sProp 𝕄} :
    iprop(∀ w : BitVec 32 × BitVec 32 × BitVec 32 × BitVec 32, Q ⟨c, w.1, w.2.1, w.2.2.1, w.2.2.2⟩) ⊢ wpc c (k0_part1 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Q := by
  rw [k0_part1_eq_skeleton]; unfold k0_part1_skel
  simp only [Prog.lift, Prog.bind_op, Prog.bind_ret, Prog.pure_eq_ret]
  unfold wpc
  rw [wp_deviceId]
  rw [wp_ret]
  refine Entails.trans ?_ BI.fupd_intro
  iintro H
  iapply H $$ %(_, _, _, _)

/-- Whose slot of the gathered buffer goes to whom: what a device brings to the four guarded raises. -/
theorem bars (c : Dev nD) (f : S4x1024x1024.Idx → F .fp8e4m3) :
    iprop(at' c cc0_scratch2 Finset.univ f ∗ dutyTok ER (cell (nx c) 0) 0 c ∗ dutyTok ER (cell (pv c) 0) 0 c ∗ dutyTok ER (cell (dg c) 0) 0 c)
      ⊢ iprop(at' c cc0_scratch2 (gslot c) f ∗ barRes c 0 ∗ barRes c 1 ∗ barRes c 2 ∗ barRes c 3) := by
  rw [xg_split c f, devs c (fun d => at' c cc0_scratch2 (gslot d) f), ← devs4 (barRes c), devs c (barRes c)]
  unfold barRes barPay
  rw [if_pos rfl, if_neg (nx_ne c), if_neg (pv_ne c), if_neg (dg_ne c)]
  iintro ⟨⟨Hc, Hn, Hp, Hd⟩, Tn, Tp, Td⟩
  isplitl [Hc]; · iexact Hc
  isplitr; · iempintro
  isplitl [Hn Tn]; · isplitl [Tn]; · iexact Tn
                     iexists _; iexact Hn
  isplitl [Hp Tp]; · isplitl [Tp]; · iexact Tp
                     iexists _; iexact Hp
  isplitl [Td]; · iexact Td
  iexists _; iexact Hd

/-- The rows of `x`, as the five transfers take them. -/
theorem arg0_pieces (c : Dev nD) (f : S4096x1024.Idx → F .f32) : at' c main_arg0 Finset.univ f
    = iprop(at' c main_arg0 (xrow c 1) f ∗ at' c main_arg0 (xrow c 2) f ∗ at' c main_arg0 (xrow c 3) f ∗ at' c main_arg0 (xrow c 0) f ∗ at' c main_arg0 (xrow c 4) f) := by
  rw [arg0_split c f, devs c (fun d => at' c main_arg0 (xblk d) f), xblk_split]
  rfl

/-- The slots of the gathered buffer, put together. -/
theorem xg_join (c : Dev nD) : iprop(at' c cc0_scratch2 (gslot c) (XG m c) ∗ at' c cc0_scratch2 (gslot (nx c)) (XG m c) ∗ at' c cc0_scratch2 (gslot (pv c)) (XG m c)
    ∗ at' c cc0_scratch2 (gqtr (dg c) 0) (XG m c) ∗ at' c cc0_scratch2 (gqtr (dg c) 1) (XG m c) ∗ at' c cc0_scratch2 (gqtr (dg c) 2) (XG m c) ∗ at' c cc0_scratch2 (gqtr (dg c) 3) (XG m c))
      = at' c cc0_scratch2 Finset.univ (XG m c) := by
  rw [xg_split c (XG m c), devs c (fun d => at' c cc0_scratch2 (gslot d) (XG m c)), gslot_split (dg c) c]

/-- What each transfer and each raise of device `c` pays: the cell's device, the semaphore, the round and the duty. -/
def payL (c : Dev nD) : List (Dev nD × Fin 34 × ℕ × Dev nD) :=
  [(nx c, 0, 0, c), (pv c, 0, 0, c), (dg c, 0, 0, c), (c, xk 0, 0, 0), (c, xk 1, 0, 0), (c, xk 2, 0, 0), (c, xk 3, 0, 0), (c, xk 4, 0, 0), (c, wk 0, 0, 0), (c, wk 1, 0, 0), (c, wk 0, 1, 0), (c, wk 1, 1, 0), (c, ok 0, 0, 0), (c, ok 1, 0, 0), (c, ok 2, 0, 0), (c, ok 3, 0, 0), (c, sk 0, 0, 0), (c, sk 1, 0, 0), (c, sk 2, 0, 0), (c, sk 3, 0, 0), (c, sk 4, 0, 0), (c, sk 5, 0, 0), (dg c, rk c 0, 0, 0), (dg c, rk c 1, 0, 0), (dg c, rk c 2, 0, 0), (dg c, rk c 3, 0, 0), (nx c, rk c 0, 0, 0), (pv c, rk c 0, 0, 0)]
/-- The right to pay, as a token. -/
abbrev tokP (p : Dev nD × Fin 34 × ℕ × Dev nD) : sProp 𝕄 := dutyTok ER (cell p.1 p.2.1) p.2.2.1 p.2.2.2
/-- Nobody has taken from the cell yet. -/
abbrev pos0 (c : Dev nD) (k : Fin 34) : sProp 𝕄 := atPos ER (cell c k) 0 ∅ 0
/-- What the device is promised at the launch: three raises of its barrier, and the six transfers into its gathered buffer. -/
def credsP (c : Dev nD) : sProp 𝕄 :=
  iprop(cred (tallyAt (cell c 0) () 3) ∗ cred (tallyAt (cell c (rk (dg c) 0)) () (rN c (dg c))) ∗ cred (tallyAt (cell c (rk (dg c) 1)) () (rN c (dg c))) ∗ cred (tallyAt (cell c (rk (dg c) 2)) () (rN c (dg c))) ∗ cred (tallyAt (cell c (rk (dg c) 3)) () (rN c (dg c))) ∗ cred (tallyAt (cell c (rk (nx c) 0)) () (rN c (nx c))) ∗ cred (tallyAt (cell c (rk (pv c) 0)) () (rN c (pv c))))

/-- What the device holds at the start, its cells' records apart. -/
def startP (c : Dev nD) : sProp 𝕄 :=
  iprop(Ow c (OB c 4) ∗ bigSep Finset.univ (pos0 c) ∗ bigSepL (payL c) tokP ∗ credsP c
    ∗ at' c main_arg0 Finset.univ (xA m c) ∗ at' c main_arg1 Finset.univ (wA m c) ∗ (∃ f, at' c main_v1 Finset.univ f)
    ∗ at' c cc0_stg0_0 Finset.univ (s2 m c) ∗ at' c cc0_stg1_0 Finset.univ (s3 m c)
    ∗ (∃ f, at' c cc0_scratch0 Finset.univ f) ∗ (∃ f, at' c cc0_scratch1 Finset.univ f) ∗ (∃ f, at' c cc0_scratch2 Finset.univ f) ∗ (∃ f, at' c cc0_scratch3 Finset.univ f) ∗ (∃ f, at' c cc0_scratch4 Finset.univ f) ∗ (∃ f, at' c cc0_scratch5 Finset.univ f))
/-- What it holds at the end: nothing owed, every semaphore at zero, the arguments as they were, the result computed. -/
def endP (c : Dev nD) : sProp 𝕄 :=
  iprop(Ow c 0 ∗ bigSep Finset.univ (fun k : Fin 34 => semVal (cell c k) 0)
    ∗ at' c main_arg0 Finset.univ (xA m c) ∗ at' c main_arg1 Finset.univ (wA m c) ∗ at' c main_v1 Finset.univ (OUT m c)
    ∗ at' c cc0_stg0_0 Finset.univ (s2 m c) ∗ at' c cc0_stg1_0 Finset.univ (s3 m c)
    ∗ (∃ f, at' c cc0_scratch0 Finset.univ f) ∗ (∃ f, at' c cc0_scratch1 Finset.univ f) ∗ (∃ f, at' c cc0_scratch2 Finset.univ f) ∗ (∃ f, at' c cc0_scratch3 Finset.univ f) ∗ (∃ f, at' c cc0_scratch4 Finset.univ f) ∗ (∃ f, at' c cc0_scratch5 Finset.univ f))

theorem ks_chain (c : Dev nD) (Φ : Fin 34 → sProp 𝕄) : bigSepL (ksOf c) Φ = iprop(Φ (0) ∗ Φ (xk 0) ∗ Φ (xk 1) ∗ Φ (xk 2) ∗ Φ (xk 3) ∗ Φ (xk 4) ∗ Φ (wk 0) ∗ Φ (wk 1) ∗ Φ (ok 0) ∗ Φ (ok 1) ∗ Φ (ok 2) ∗ Φ (ok 3) ∗ Φ (sk 0) ∗ Φ (sk 1) ∗ Φ (sk 2) ∗ Φ (sk 3) ∗ Φ (sk 4) ∗ Φ (sk 5) ∗ Φ (rk (dg c) 0) ∗ Φ (rk (dg c) 1) ∗ Φ (rk (dg c) 2) ∗ Φ (rk (dg c) 3) ∗ Φ (rk (nx c) 0) ∗ Φ (rk (pv c) 0) ∗ Φ (rk c 0) ∗ Φ (rk c 1) ∗ Φ (rk c 2) ∗ Φ (rk c 3) ∗ Φ (rk (nx c) 1) ∗ Φ (rk (nx c) 2) ∗ Φ (rk (nx c) 3) ∗ Φ (rk (pv c) 1) ∗ Φ (rk (pv c) 2) ∗ Φ (rk (pv c) 3)) := rfl
theorem pay_chain (c : Dev nD) (Φ : Dev nD × Fin 34 × ℕ × Dev nD → sProp 𝕄) : bigSepL (payL c) Φ = iprop(Φ (nx c, 0, 0, c) ∗ Φ (pv c, 0, 0, c) ∗ Φ (dg c, 0, 0, c) ∗ Φ (c, xk 0, 0, 0) ∗ Φ (c, xk 1, 0, 0) ∗ Φ (c, xk 2, 0, 0) ∗ Φ (c, xk 3, 0, 0) ∗ Φ (c, xk 4, 0, 0) ∗ Φ (c, wk 0, 0, 0) ∗ Φ (c, wk 1, 0, 0) ∗ Φ (c, wk 0, 1, 0) ∗ Φ (c, wk 1, 1, 0) ∗ Φ (c, ok 0, 0, 0) ∗ Φ (c, ok 1, 0, 0) ∗ Φ (c, ok 2, 0, 0) ∗ Φ (c, ok 3, 0, 0) ∗ Φ (c, sk 0, 0, 0) ∗ Φ (c, sk 1, 0, 0) ∗ Φ (c, sk 2, 0, 0) ∗ Φ (c, sk 3, 0, 0) ∗ Φ (c, sk 4, 0, 0) ∗ Φ (c, sk 5, 0, 0) ∗ Φ (dg c, rk c 0, 0, 0) ∗ Φ (dg c, rk c 1, 0, 0) ∗ Φ (dg c, rk c 2, 0, 0) ∗ Φ (dg c, rk c 3, 0, 0) ∗ Φ (nx c, rk c 0, 0, 0) ∗ Φ (pv c, rk c 0, 0, 0)) := rfl

set_option maxHeartbeats 4000000 in
/-- The body of the kernel on device `c`. -/
theorem body (c : Dev nD) : recs m K ⊢ iprop(levAts L lv -∗ startP m c -∗ wpc c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) (fun _ => endP m c)) := by
  rw [cc0_body_eq_skeleton]; unfold cc0_body_skel
  simp only [Prog.lift, Prog.bind_op, Prog.bind_ret, Prog.pure_eq_ret]
  unfold startP credsP
  rw [cells_split c (pos0 c), arg0_pieces c (xA m c),
    arg1_split c (wA m c), devs c (fun d => at' c main_arg1 (wrow d) (wA m c))]
  rw [ks_chain, pay_chain]
  iintro #HR #Hl ⟨HO, ⟨HAb, HAx0, HAx1, HAx2, HAx3, HAx4, HAw0, HAw1, HAo0, HAo1, HAo2, HAo3, HAs0, HAs1, HAs2, HAs3, HAs4, HAs5, HAr0, HAr1, HAr2, HAr3, HArn, HArp, HAy0, HAy1, HAy2, HAy3, HAy4, HAy5, HAy6, HAy7, HAy8, HAy9⟩, ⟨HTBn, HTBp, HTBd, HTx0, HTx1, HTx2, HTx3, HTx4, HTw0_0, HTw1_0, HTw0_1, HTw1_1, HTo0, HTo1, HTo2, HTo3, HTs0, HTs1, HTs2, HTs3, HTs4, HTs5, HTr0, HTr1, HTr2, HTr3, HTrn, HTrp⟩, ⟨HCb, HCr0, HCr1, HCr2, HCr3, HCrn, HCrp⟩, ⟨HX1, HX2, HX3, HX0, HX4⟩, ⟨HWc, HWn, HWp, HWd⟩, ⟨%fo, HU⟩, HP2, HP3, ⟨%fx, HD⟩, ⟨%gs, HS⟩, ⟨%fg, HG⟩, ⟨%fw, HE⟩, ⟨%fv, HV⟩, ⟨%fa, HA⟩⟩
  ihave Hsp := (Entails.of_eq (v1_split c fo)) $$ HU
  icases Hsp with ⟨HU0, HU1, HU2, HU3⟩
  ihave Hsp := (Entails.of_eq (xst_split c fx)) $$ HD
  icases Hsp with ⟨HD0, HD1, HD2, HD3, HD4⟩
  ihave Hsp := (Entails.of_eq (xs_split c gs)) $$ HS
  icases Hsp with ⟨HS0, HS1, HS2, HS3, HS4, HS5⟩
  ihave Hsp := (Entails.of_eq (wst_split c fw)) $$ HE
  icases Hsp with ⟨HE0, HE1⟩
  ihave Hsp := (Entails.of_eq (w8_split c fv)) $$ HV
  icases Hsp with ⟨HV0, HV1, HV2, HV3⟩
  ihave Hsp := (bars c fg) $$ [HG HTBn HTBp HTBd]
  · isplitl [HG]; · iexact HG
    isplitl [HTBn]; · iexact HTBn
    isplitl [HTBp]; · iexact HTBp
    iexact HTBd
  icases Hsp with ⟨HGo, HB0, HB1, HB2, HB3⟩
  iapply (wpc_bind (F := F) c)
  iapply (part1 (F := F) c)
  iintro %w
  iapply (wpc_bind (F := F) c)
  iapply (part2 m c _ _ _ _) $$ HR Hl HO HX4 HD4 HTx4 HX0 HD0 HTx0 HB0 HB1 HB2 HB3 HCb HAb
  iintro HO HCx4 HCx0 HZb HPn HPd HPp
  unfold barPay
  icases HPn with ⟨%fn, HGn⟩
  icases HPp with ⟨%fp, HGp⟩
  icases HPd with ⟨%fd, HGd⟩
  ihave Hsp := (Entails.of_eq (gslot_split c (dg c) fd)) $$ HGd
  icases Hsp with ⟨HG0, HG1, HG2, HG3⟩
  iapply (wpc_bind (F := F) c)
  iapply (part3 m c _) $$ HR Hl HO HCx4 HAx4 HS0 HG0 HTs0 HTr0 HX1 HD1 HTx1
  iintro HO HZx4 HD4 HX4 HCs0 HCx1
  iapply (wpc_bind (F := F) c)
  iapply (part4 m c _) $$ HR Hl HX2 HD2 HTx2 HX3 HD3 HTx3
  iintro HCx2 HCx3 %a4
  iapply (wpc_bind (F := F) c)
  iapply (part5 m c _ _ _ _ _) $$ HR Hl HWc HE0 HTw0_0 HWn HE1 HTw1_0
  iintro HCw0 HCw1 %a5
  iapply (wpc_bind (F := F) c)
  iapply (part6 m c _) $$ HR Hl HO HCx0 HAx0 HS1 HG1 HTs1 HTr1 HS2
  iintro HO HZx0 HD0 HX0 HCs1 HS2 %a6
  iapply (wpc_bind (F := F) c)
  iapply (part7 m c _ _) $$ HR Hl HO HS2 HG2 HTs2 HTr2 HD0 HS3 HG3 HTs3 HTr3 HCx1 HAx1
  iintro HO HCs2 HD0 HCs3 HZx1 HD1 HX1
  iapply (wpc_bind (F := F) c)
  iapply (part8 m c _ _) $$ HR Hl HO HD1 HGo HCx2 HAx2 HS4 HGn HTs4 HTrn
  iintro HO HD1 HGo HZx2 HD2 HX2 HCs4
  iapply (wpc_bind (F := F) c)
  iapply (part9 m c _) $$ HR Hl HO HCx3 HAx3 HS5 HGp HTs5 HTrp HP2 HP3 HCw0 HAw0
  iintro HO HZx3 HD3 HX3 HCs5 HP2 HP3 HAw0 #HRw0 HE0 HWc
  iapply (wpc_bind (F := F) c)
  iapply (part10 m c _) $$ HR Hl HO HE0 HV0 HWp HTw0_1 HRw0 HGo HA HCw1 HAw1
  iintro HO HV0 HCw0 HGo HA HAw1 #HRw1 HE1 HWn
  iapply (wpc_bind (F := F) c)
  iapply (part11 m c _) $$ HR Hl HO HV1 HE1 HWd HTw1_1 HRw1 HCrn HArn HA
  iintro HO HV1 HCw1 HZrn HHn HA
  iapply (wpc_bind (F := F) c)
  iapply (part12 m c _) $$ HR Hl HO HCw0 HAw0 HV2 HCrp HArp HA
  iintro HO HAw0 HE0 HWp HV2 HZrp HHp HA
  iapply (wpc_bind (F := F) c)
  iapply (part13 m c _) $$ HR Hl HO HA HCw1 HAw1 HV3 HCr0 HAr0
  iintro HO HA HAw1 HE1 HWd HV3 HZr0 HH0
  ihave Hsp := (Entails.of_eq (acc_split c (ACC2 m c))) $$ HA
  icases Hsp with ⟨HQ0, HQ1, HQ2, HQ3⟩
  iapply (wpc_bind (F := F) c)
  iapply (part14 m c _) $$ HR Hl HO HQ0 HU0 HTo0 HCr1 HAr1 HQ1 HV3
  iintro HO HCo0 HZr1 HH1 HQ1 HV3
  iapply (wpc_bind (F := F) c)
  iapply (part15 m c _) $$ HR Hl HO HQ1 HU1 HTo1 HCr2 HAr2 HQ2 HV3
  iintro HO HCo1 HZr2 HH2 HQ2 HV3
  iapply (wpc_bind (F := F) c)
  iapply (part16 m c _) $$ HR Hl HO HQ2 HU2 HTo2 HCr3 HAr3 HQ3 HV3 HU3 HTo3
  iintro HO HCo2 HZr3 HH3 HV3 HCo3
  iapply (wpc_bind (F := F) c)
  iapply (part17 m c) $$ HR Hl HO HCs0 HAs0 HCs1 HAs1 HCs2 HAs2 HCs3 HAs3
  iintro HO HZs0 HS0 HZs1 HS1 HZs2 HS2 HZs3 HS3
  iapply (wpc_bind (F := F) c)
  iapply (part18 m c) $$ HR Hl HO HCs4 HAs4 HCs5 HAs5 HCo0 HAo0 HCo1 HAo1 HCo2 HAo2
  iintro HO HZs4 HS4 HZs5 HS5 HZo0 HU0 HQ0 HZo1 HU1 HQ1 HZo2 HU2 HQ2
  iapply (wp_owt m c 3 so3 (cr_eq _)) $$ HR Hl HCo3 HO HAo3
  iintro ⟨HO, HZo3, Hp⟩
  unfold oPay
  icases Hp with ⟨HU3, HQ3⟩
  imod (close_at m c (rk c 0) 0 (duties_r_none m c _ _ (by clear * -; revert c; decide))) $$ HR HAy0 with HZy0
  imod (close_at m c (rk c 1) 0 (duties_r_none m c _ _ (by clear * -; revert c; decide))) $$ HR HAy1 with HZy1
  imod (close_at m c (rk c 2) 0 (duties_r_none m c _ _ (by clear * -; revert c; decide))) $$ HR HAy2 with HZy2
  imod (close_at m c (rk c 3) 0 (duties_r_none m c _ _ (by clear * -; revert c; decide))) $$ HR HAy3 with HZy3
  imod (close_at m c (rk (nx c) 1) 0 (duties_r_none m c _ _ (by clear * -; revert c; decide))) $$ HR HAy4 with HZy4
  imod (close_at m c (rk (nx c) 2) 0 (duties_r_none m c _ _ (by clear * -; revert c; decide))) $$ HR HAy5 with HZy5
  imod (close_at m c (rk (nx c) 3) 0 (duties_r_none m c _ _ (by clear * -; revert c; decide))) $$ HR HAy6 with HZy6
  imod (close_at m c (rk (pv c) 1) 0 (duties_r_none m c _ _ (by clear * -; revert c; decide))) $$ HR HAy7 with HZy7
  imod (close_at m c (rk (pv c) 2) 0 (duties_r_none m c _ _ (by clear * -; revert c; decide))) $$ HR HAy8 with HZy8
  imod (close_at m c (rk (pv c) 3) 0 (duties_r_none m c _ _ (by clear * -; revert c; decide))) $$ HR HAy9 with HZy9
  imod (close_at m c (wk 0) 2 (duties_later_w m c 0)) $$ HR HAw0 with HZw0
  imod (close_at m c (wk 1) 2 (duties_later_w m c 1)) $$ HR HAw1 with HZw1
  iapply (wpc_ret (F := F) c)
  unfold endP
  isplitl [HO]; · iexact HO
  isplitl [HZb HZx0 HZx1 HZx2 HZx3 HZx4 HZw0 HZw1 HZo0 HZo1 HZo2 HZo3 HZs0 HZs1 HZs2 HZs3 HZs4 HZs5 HZr0 HZr1 HZr2 HZr3 HZrn HZrp HZy0 HZy1 HZy2 HZy3 HZy4 HZy5 HZy6 HZy7 HZy8 HZy9]
  · iapply (Entails.of_eq ((cells_split c (fun k : Fin 34 => (semVal (cell c k) 0 : sProp 𝕄))).trans (ks_chain (F := F) c _)).symm)
    isplitl [HZb]; · iexact HZb
    isplitl [HZx0]; · iexact HZx0
    isplitl [HZx1]; · iexact HZx1
    isplitl [HZx2]; · iexact HZx2
    isplitl [HZx3]; · iexact HZx3
    isplitl [HZx4]; · iexact HZx4
    isplitl [HZw0]; · iexact HZw0
    isplitl [HZw1]; · iexact HZw1
    isplitl [HZo0]; · iexact HZo0
    isplitl [HZo1]; · iexact HZo1
    isplitl [HZo2]; · iexact HZo2
    isplitl [HZo3]; · iexact HZo3
    isplitl [HZs0]; · iexact HZs0
    isplitl [HZs1]; · iexact HZs1
    isplitl [HZs2]; · iexact HZs2
    isplitl [HZs3]; · iexact HZs3
    isplitl [HZs4]; · iexact HZs4
    isplitl [HZs5]; · iexact HZs5
    isplitl [HZr0]; · iexact HZr0
    isplitl [HZr1]; · iexact HZr1
    isplitl [HZr2]; · iexact HZr2
    isplitl [HZr3]; · iexact HZr3
    isplitl [HZrn]; · iexact HZrn
    isplitl [HZrp]; · iexact HZrp
    isplitl [HZy0]; · iexact HZy0
    isplitl [HZy1]; · iexact HZy1
    isplitl [HZy2]; · iexact HZy2
    isplitl [HZy3]; · iexact HZy3
    isplitl [HZy4]; · iexact HZy4
    isplitl [HZy5]; · iexact HZy5
    isplitl [HZy6]; · iexact HZy6
    isplitl [HZy7]; · iexact HZy7
    isplitl [HZy8]; · iexact HZy8
    iexact HZy9
  isplitl [HX1 HX2 HX3 HX0 HX4]
  · iapply (Entails.of_eq (show _ = at' c main_arg0 Finset.univ (xA m c) from by rw [arg0_pieces c (xA m c)]))
    isplitl [HX1]; · iexact HX1
    isplitl [HX2]; · iexact HX2
    isplitl [HX3]; · iexact HX3
    isplitl [HX0]; · iexact HX0
    iexact HX4
  isplitl [HWc HWn HWp HWd]
  · iapply (Entails.of_eq (show _ = at' c main_arg1 Finset.univ (wA m c) from by rw [arg1_split c (wA m c), devs c (fun d => at' c main_arg1 (wrow d) (wA m c))]))
    isplitl [HWc]; · iexact HWc
    isplitl [HWn]; · iexact HWn
    isplitl [HWp]; · iexact HWp
    iexact HWd
  isplitl [HU0 HU1 HU2 HU3]
  · iapply (Entails.of_eq (v1_split c (OUT m c)).symm)
    isplitl [HU0]; · iexact HU0
    isplitl [HU1]; · iexact HU1
    isplitl [HU2]; · iexact HU2
    iexact HU3
  isplitl [HP2]; · iexact HP2
  isplitl [HP3]; · iexact HP3
  isplitl [HD0 HD1 HD2 HD3 HD4]
  · iexists _
    iapply (Entails.of_eq (xst_split c (XST m c)).symm)
    isplitl [HD0]; · iexact HD0
    isplitl [HD1]; · iexact HD1
    isplitl [HD2]; · iexact HD2
    isplitl [HD3]; · iexact HD3
    iexact HD4
  isplitl [HS0 HS1 HS2 HS3 HS4 HS5]
  · iexists _
    iapply (Entails.of_eq (xs_split c (XS m c)).symm)
    isplitl [HS0]; · iexact HS0
    isplitl [HS1]; · iexact HS1
    isplitl [HS2]; · iexact HS2
    isplitl [HS3]; · iexact HS3
    isplitl [HS4]; · iexact HS4
    iexact HS5
  isplitl [HGo HHn HHp HH0 HH1 HH2 HH3]
  · iexists _
    iapply (Entails.of_eq (xg_join m c))
    isplitl [HGo]; · iexact HGo
    isplitl [HHn]; · iexact HHn
    isplitl [HHp]; · iexact HHp
    isplitl [HH0]; · iexact HH0
    isplitl [HH1]; · iexact HH1
    isplitl [HH2]; · iexact HH2
    iexact HH3
  isplitl [HE0 HE1]
  · iexists (WST m c 1)
    iapply (Entails.of_eq (wst_split c (WST m c 1)).symm)
    isplitl [HE0]; · iexact HE0
    iexact HE1
  isplitl [HV0 HV1 HV2 HV3]
  · iexists _
    iapply (Entails.of_eq (w8_split c (W8 m c)).symm)
    isplitl [HV0]; · iexact HV0
    isplitl [HV1]; · iexact HV1
    isplitl [HV2]; · iexact HV2
    iexact HV3
  iexists _
  iapply (Entails.of_eq (acc_split c (OUT m c)).symm)
  isplitl [HQ0]; · iexact HQ0
  isplitl [HQ1]; · iexact HQ1
  isplitl [HQ2]; · iexact HQ2
  iexact HQ3

end Cert.V07
-- ==== Proof.Launch.lean ====
/-
The launch: what the machine hands the devices, and what it reads back when they are done.
-/
module

public import proofs.«01_k».proof.Proof.Body
public import proofs.«01_k».proof.Proof.Gen.KernelIdeal.Points
public import Idealize.ShloMosaic.Lib.Pipeline.CollectiveSegs

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-- The memory at the start. -/
def s₀ : MemSt nD τ sig (Elt F) := ⟨m, fun _ => 0, ρ⟩

/-- The kernel's own semaphores: all of its cells but the barrier. -/
abbrev osem : Fin 33 → SemLoc sig := fun k => semL k.succ

/-- The scratch buffers, with whatever they hold. -/
def scrP (c : Dev nD) : sProp 𝕄 := iprop((∃ f, at' c cc0_scratch0 Finset.univ f) ∗ (∃ f, at' c cc0_scratch1 Finset.univ f) ∗ (∃ f, at' c cc0_scratch2 Finset.univ f) ∗ (∃ f, at' c cc0_scratch3 Finset.univ f) ∗ (∃ f, at' c cc0_scratch4 Finset.univ f) ∗ (∃ f, at' c cc0_scratch5 Finset.univ f))

/-- A device's ghost state at the start: every cell's record, its own positions, and the duties it pays. -/
def G' (c : Dev nD) : sProp 𝕄 := iprop(∃ K, recs m K ∗ bigSep Finset.univ (pos0 c) ∗ bigSepL (payL c) tokP)

/-- What a device starts from, its scratch buffers apart. -/
def X₀ (c : Dev nD) : sProp 𝕄 :=
  iprop(G' m c ∗ credsP c ∗ levAts L lv ∗ at' c main_arg0 Finset.univ (xA m c) ∗ at' c main_arg1 Finset.univ (wA m c) ∗ (∃ f, at' c main_v1 Finset.univ f))

def Φ₀ (c : Dev nD) : sProp 𝕄 := iprop(X₀ m c ∗ scrP c)
/-- The arguments that the kernel copies from, as they were, and the result. -/
def outP (c : Dev nD) : sProp 𝕄 :=
  iprop(at' c main_arg0 Finset.univ (xA m c) ∗ at' c main_arg1 Finset.univ (wA m c) ∗ at' c main_v1 Finset.univ (OUT m c))
def Φ₁ (c : Dev nD) : sProp 𝕄 := iprop((bigSep Finset.univ fun k : Fin 34 => semVal (cell c k) 0) ∗ outP m c ∗ scrP c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => s2 m c
    | ⟨1, _⟩ => s3 m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_eq (c : Dev nD) (b : Ref sig .tc) (X : b.ty.Contents (Elt F)) :
    (owns c (Memref.whole b) fullShare X : sProp 𝕄) = iprop(∃ f : Buf (Elt F) (((c : Dev nD) : Thread nD τ).loc b), ⌜f = X⌝ ∗ (((c : Thread nD τ).loc b) ↦{fullShare} f)) := by
  unfold owns
  simp only [Memref.view_whole, View.set_whole, View.read_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def preB (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def postB (c : Dev nD) : sProp 𝕄 :=
  iprop(Φ₁ m c ∗ (dats m ρ 0 c).owesAt () t0_0.succ ∗ stg c cc0_stg0_0 (s2 m c) ∗ stg c cc0_stg1_0 (s3 m c))

theorem before0 (c : Dev nD) (d) : (dats m ρ 0 c).before (0 : Fin 2) t0_0 d = s2 m c := by
  unfold Dat.before; rw [if_pos (fetch0_0 t0_0)]
  exact funext fun i => congrArg (m _) (one_ix _ |>.trans (one_ix _).symm)
theorem before1 (c : Dev nD) (d) : (dats m ρ 0 c).before (1 : Fin 2) t0_0 d = s3 m c := by
  unfold Dat.before; rw [if_pos (fetch0_1 t0_0)]
  exact funext fun i => congrArg (m _) (one_ix _ |>.trans (one_ix _).symm)

/-- A program's post-condition weakened. -/
theorem wpc_wand {α : Type} (c : Dev nD) {p : Prog (TpuEff nD τ sig (Elt F) Λ₀ .tc) α} {Q Q' : α → sProp 𝕄} :
    iprop(wpc c p Q ∗ ∀ a, Q a -∗ Q' a) ⊢ wpc c p Q' := wp_wand_r _ _ _

/-- The body from the pipeline's holdings to them. -/
theorem body_step (c : Dev nD) : preB m ρ c ⊢ wpc c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) (fun _ => postB m ρ c) := by
  unfold preB Φ₀ X₀ G' scrP Dat.owesAt Pipeline.owesWithin
  simp only [before0, before1]
  iintro ⟨⟨⟨⟨%K, #HR, Hp, Ht⟩, Hc, Hl, H0, H1, Hv⟩, Hs0, Hs1, Hs2, Hs3, Hs4, Hs5⟩, ⟨%W, %hW, HO⟩, ⟨%d0, %f0, %h0, HP2⟩, ⟨%d1, %f1, %h1, HP3⟩⟩
  subst h0; subst h1
  iapply (wpc_wand (F := F) c)
  isplitl
  · iapply (body (K := K) m c) $$ HR Hl
    unfold startP
    isplitl [HO]; · unfold Ow; iexists W; iexact HO
    isplitl [Hp]; · iexact Hp
    isplitl [Ht]; · iexact Ht
    isplitl [Hc]; · iexact Hc
    isplitl [H0]; · iexact H0
    isplitl [H1]; · iexact H1
    isplitl [Hv]; · iexact Hv
    isplitl [HP2]; · iexact HP2
    isplitl [HP3]; · iexact HP3
    isplitl [Hs0]; · iexact Hs0
    isplitl [Hs1]; · iexact Hs1
    isplitl [Hs2]; · iexact Hs2
    isplitl [Hs3]; · iexact Hs3
    isplitl [Hs4]; · iexact Hs4
    iexact Hs5
  · iintro %a
    unfold endP postB Φ₁ outP scrP Dat.owesAt Pipeline.owesWithin
    rw [show (dats m ρ 0 c).owed t0_0.succ = 0 from rfl]
    unfold Ow
    iintro ⟨⟨%W', HO⟩, Hz, H0, H1, Hv, HP2, HP3, Hs⟩
    isplitl [Hz H0 H1 Hv Hs]
    · isplitl [Hz]; · iexact Hz
      isplitl [H0 H1 Hv]
      · isplitl [H0]; · iexact H0
        isplitl [H1] <;> iassumption
      iexact Hs
    isplitl [HO]
    · iexists W'
      isplitr; · ipureintro; exact fun _ _ => Or.inl trivial
      iexact HO
    isplitl [HP2]
    · iexists _; isplitr; · (ipureintro; rfl)
      iexact HP2
    iexists _; isplitr; · (ipureintro; rfl)
    iexact HP3

set_option maxRecDepth 4000 in
/-- The body as the pipeline calls it. -/
theorem body_obligation (c : Dev nD) : BodyObligation (dats (F := F) m ρ 0 c) (defs₀ (F := F)) 𝒱₀ () Set.univ := fun t => by
  rw [fin_N0 t]
  rw [bigSep_W0, bigSep_W0]
  simp only [owns_eq]
  show preB m ρ c ⊢ wpc c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) (fun _ => postB m ρ c)
  exact body_step m ρ c

/-! ## The cells and the tokens -/

theorem ownSemFacts : Pipeline.OwnSemFacts cfg0.spec osem := by decide +kernel
theorem share_eq (c : Dev nD) (w : Fin cfg0.W) : (dats m ρ 0 c).share w = fullShare := by unfold Dat.share; split <;> rfl

theorem cell_inj : Function.Injective fun p : Dev nD × Fin 34 => cell p.1 p.2 := by
  rintro ⟨c, k⟩ ⟨c', k'⟩ h
  have h1 : c = c' := congrArg (fun g : GSem nD τ sig => g.1.1) h
  have h2 : k = k' := semL_inj (congrArg Prod.snd h)
  rw [h1, h2]
/-- All the cells. -/
def cellsS : Finset (GSem nD τ sig) := Finset.univ.map ⟨_, cell_inj⟩

/-- The duty number `i` of those that a device pays. -/
def payF (p : Dev nD × Fin 28) : Dev nD × Fin 34 × ℕ × Dev nD := (payL p.1).get (p.2.cast rfl)
theorem payF_inj : Function.Injective payF := by
  have h : ∀ p q : Dev nD × Fin 28, payF p = payF q → p = q := by decide +kernel
  exact fun p q => h p q
theorem tok_inj : Function.Injective fun p : Dev nD × Fin 28 => (cell (payF p).1 (payF p).2.1, (payF p).2.2.1, (payF p).2.2.2) := by
  intro p q h
  refine payF_inj ?_
  have h1 : ((payF p).1, (payF p).2.1) = ((payF q).1, (payF q).2.1) := @cell_inj ((payF p).1, (payF p).2.1) ((payF q).1, (payF q).2.1) (congrArg Prod.fst h)
  have h2 := congrArg Prod.snd h
  exact Prod.ext (Prod.mk.inj h1).1 (Prod.ext (Prod.mk.inj h1).2 h2)
def toksS : Finset (GSem nD τ sig × ℕ × Dev nD) := Finset.univ.map ⟨_, tok_inj⟩

theorem pay_split (c : Dev nD) (Φ : Dev nD × Fin 34 × ℕ × Dev nD → sProp 𝕄) : (bigSep Finset.univ fun i : Fin 28 => Φ (payF (c, i))) = bigSepL (payL c) Φ :=
  (bigSep_univ_eq_bigSepL [0, 1, 2, 3, 4, 5, 6, 7, 8, 9, 10, 11, 12, 13, 14, 15, 16, 17, 18, 19, 20, 21, 22, 23, 24, 25, 26, 27] (by decide) (by decide) _).trans rfl

def u₀ : UU := (initOf (Pipeline.cells cfgs cellOf_inj) (Pipeline.launchToks cfgs cellOf_inj), initOf cellsS toksS)

/-- What the launch deals a device of the rounds' ghost state. -/
def G (c : Dev nD) : sProp 𝕄 :=
  iprop((bigSep Finset.univ fun k : Fin 34 => roundState ER (Rd m) (cell c k) 0)
    ∗ ((bigSep Finset.univ fun k : Fin 34 => reached ER (cell c k) 0) ∗ bigSep Finset.univ (pos0 c)) ∗ bigSepL (payL c) tokP)

theorem fund_all : BI.own (ER (initOf cellsS toksS)) ⊢ (|==> bigSep Finset.univ (G m) : sProp 𝕄) := by
  have hX (Φ : GSem nD τ sig → sProp 𝕄) : bigSep cellsS Φ = bigSep Finset.univ fun c : Dev nD => bigSep Finset.univ fun k : Fin 34 => Φ (cell c k) := by
    unfold cellsS; rw [bigSep_map, bigSep_univ_prod]; rfl
  have hT : bigSep toksS (fun x => (dutyTok ER x.1 x.2.1 x.2.2 : sProp 𝕄)) = bigSep Finset.univ fun c : Dev nD => bigSepL (payL c) tokP := by
    unfold toksS; rw [bigSep_map, bigSep_univ_prod]
    exact bigSep_congr fun c _ => pay_split c tokP
  iintro HX
  imod (Rounds.fund ER (Rd m) cellsS toksS) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hr'] <;> iassumption
  iexact Htok'

/-- The barrier is the one semaphore that outlives the launch. -/
theorem unscopedSems0_eq (c : Dev nD) : (unscopedSems0 c : sProp 𝕄) = semVal (cell c 0) 0 := by
  unfold unscopedSems0; rw [bigSep_eq_bigSepL_of_eq [SemLoc.reg barS] (by decide) (by decide)]; rfl

theorem fin_succ (Φ : Fin 34 → sProp 𝕄) : bigSep Finset.univ Φ = iprop(Φ 0 ∗ bigSep Finset.univ fun k : Fin 33 => Φ k.succ) := by
  have h : (Finset.univ : Finset (Fin 34)) = insert 0 (Finset.univ.map ⟨Fin.succ, Fin.succ_injective 33⟩) := by decide +kernel
  rw [h, bigSep_insert (by decide +kernel), bigSep_map]
  rfl

/-- A device's cells are its barrier and the kernel's own semaphores. -/
theorem sems_eq (c : Dev nD) : (bigSep Finset.univ fun k : Fin 34 => semVal (cell c k) 0 : sProp 𝕄)
    = iprop(unscopedSems0 c ∗ Pipeline.ownSems0 (Ix := Unit) (Name := ℕ) (U := UU) (Lvl := ℕ) (Val := Elt F) (τ := τ) osem c) := by
  rw [fin_succ, unscopedSems0_eq]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 34 => iprop(∃ κ : ℕ, cellInv ER (Rd m) κ (cell c k)))
          ∗ ((bigSep Finset.univ fun k : Fin 34 => reached ER (cell c k) 0) ∗ bigSep Finset.univ (pos0 c)) ∗ bigSepL (payL c) tokP) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 34 => semVal (cell c k) 0) ∗ bigSep Finset.univ fun k : Fin 34 => roundState ER (Rd m) (cell c k) 0)
      ⊢ (|={Set.univ}=> bigSep Finset.univ fun k : Fin 34 => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : Fin 34 => iprop(∃ κ : ℕ, cellInv ER (Rd m) κ (cell c k)))
          ∗ ((bigSep Finset.univ fun k : Fin 34 => reached ER (cell c k) 0) ∗ bigSep Finset.univ (pos0 c)) ∗ bigSepL (payL c) tokP) : sProp 𝕄)
      ⊢ bigSep Finset.univ (G' m) := by
  rw [bigSep_sep', bigSep_sep', bigSep_sep', ← bigSep_univ_prod (fun ck : Dev nD × Fin 34 => iprop(∃ κ : ℕ, cellInv ER (Rd m) κ (cell ck.1 ck.2))),
    ← bigSep_univ_prod (fun ck : Dev nD × Fin 34 => (reached ER (cell ck.1 ck.2) 0 : sProp 𝕄))]
  iintro ⟨HI, ⟨#HR, Hat⟩, Htok⟩
  ihave HK := (BI.bigSep_exists_pi Finset.univ (fun (ck : Dev nD × Fin 34) (κ : ℕ) => (cellInv ER (Rd m) κ (cell ck.1 ck.2) : sProp 𝕄))) $$ HI
  icases HK with ⟨%K, #HI⟩
  have hc (c : Dev nD) : iprop(recs m K ∗ (bigSep Finset.univ (pos0 c) ∗ bigSepL (payL c) tokP)) ⊢ G' m c := by
    unfold G'
    iintro ⟨H1, H2, H3⟩
    iexists K
    isplitl [H1]; · iexact H1
    isplitl [H2] <;> iassumption
  iapply ((sep_mono_left (BI.bigSep_of_persistent (Finset.univ : Finset (Dev nD)) (recs m K))).trans
    ((Entails.of_eq (bigSep_sep' Finset.univ (fun _ : Dev nD => recs m K) (fun c : Dev nD => iprop(bigSep Finset.univ (pos0 c) ∗ bigSepL (payL c) tokP))).symm).trans
      (bigSep_mono fun c _ => hc c)))
  isplitr
  · unfold recs
    iapply (Entails.of_eq (bigSep_sep' Finset.univ (fun ck : Dev nD × Fin 34 => cellInv ER (Rd m) (K ck) (cell ck.1 ck.2)) (fun ck => reached ER (cell ck.1 ck.2) 0)).symm)
    isplitr; · iexact HI
    iexact HR
  · iapply (Entails.of_eq (bigSep_sep' Finset.univ (fun c : Dev nD => bigSep Finset.univ (pos0 c)) (fun c : Dev nD => bigSepL (payL c) tokP)).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.V07
-- ==== Proof.Run.lean ====
/-
The run: from any memory with its counters at zero, every device ends with its block of the result.
-/
module

public import proofs.«01_k».proof.Proof.Launch

@[expose] public section

noncomputable section

namespace Cert.V07

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The units the launch credits -/

/-- One entry of a tally at a cell. -/
theorem tally_app (e c : Dev nD) (k k' : Fin 34) (n : ℕ) :
    (tallyAt (cell e k') () n : CellTallies nD τ sig Unit) (cell c k) () = (if c = e ∧ k = k' then 1 else 0) * n := by
  rw [tallyAt_apply]
  by_cases h : c = e ∧ k = k'
  · obtain ⟨rfl, rfl⟩ := h
    rw [if_pos ⟨rfl, rfl⟩, if_pos ⟨rfl, rfl⟩, Nat.one_mul]
  · rw [if_neg h, Nat.zero_mul, if_neg]
    rintro ⟨h1, -⟩
    exact h (Prod.mk.inj (@cell_inj (c, k) (e, k') h1))

/-- How many of a device's diagonal copies land on a cell. -/
def nD4 (c : Dev nD) (k : Fin 34) (d : Dev nD) : ℕ :=
  (if c = dg d ∧ k = rk d 3 then 1 else 0) + (if c = dg d ∧ k = rk d 2 then 1 else 0)
    + (if c = dg d ∧ k = rk d 1 then 1 else 0) + (if c = dg d ∧ k = rk d 0 then 1 else 0)
/-- How many of its whole-block copies do. -/
def nS2 (c : Dev nD) (k : Fin 34) (d : Dev nD) : ℕ := (if c = pv d ∧ k = rk d 0 then 1 else 0) + (if c = nx d ∧ k = rk d 0 then 1 else 0)
/-- How many of its barrier units do. -/
def nB4 (c : Dev nD) (k : Fin 34) (d : Dev nD) : ℕ :=
  (if c ≠ d ∧ c = 3 ∧ k = 0 then 1 else 0) + (if c ≠ d ∧ c = 2 ∧ k = 0 then 1 else 0)
    + (if c ≠ d ∧ c = 1 ∧ k = 0 then 1 else 0) + (if c ≠ d ∧ c = 0 ∧ k = 0 then 1 else 0)

theorem bTal_app (d j c : Dev nD) (k : Fin 34) : bTal d j (cell c k) () = if c ≠ d ∧ c = j ∧ k = 0 then 1 else 0 := by
  unfold bTal
  by_cases hj : j = d
  · rw [if_pos hj, if_neg (fun h => h.1 (h.2.1.trans hj))]; rfl
  · rw [if_neg hj, tally_app, Nat.mul_one]
    by_cases h : c = j ∧ k = 0
    · rw [if_pos h, if_pos ⟨fun e => hj (h.1.symm.trans e), h⟩]
    · rw [if_neg h, if_neg (fun e => h e.2)]

/-- What a device owes a cell at the start, by kinds. -/
theorem owed_app (d c : Dev nD) (k : Fin 34) :
    O₀ d (cell c k) () = nS2 c k d * cr S1024x1024 .fp8e4m3 + nD4 c k d * cr S256x1024 .fp8e4m3 + nB4 c k d := by
  have hR (j : Dev nD) (hj : rN j d = cr S1024x1024 .fp8e4m3) : oR d j (cell c k) () = (if c = j ∧ k = rk d 0 then 1 else 0) * cr S1024x1024 .fp8e4m3 := by
    unfold oR; rw [hj, tally_app]
  have hD (q : Fin 4) : oD d q (cell c k) () = (if c = dg d ∧ k = rk d q then 1 else 0) * cr S256x1024 .fp8e4m3 := by
    unfold oD; rw [rN_to_dg, tally_app]
  have e : O₀ d (cell c k) () = oR d (pv d) (cell c k) () + oR d (nx d) (cell c k) () + oD d 3 (cell c k) () + oD d 2 (cell c k) ()
      + oD d 1 (cell c k) () + oD d 0 (cell c k) () + bTal d 3 (cell c k) () + bTal d 2 (cell c k) () + bTal d 1 (cell c k) () + bTal d 0 (cell c k) () := rfl
  rw [e, hR (pv d) (if_neg (ne_dg_pv d)), hR (nx d) (if_neg (ne_dg_nx d)), hD, hD, hD, hD, bTal_app, bTal_app, bTal_app, bTal_app]
  unfold nS2 nD4 nB4
  simp only [Nat.add_mul]
  omega

/-- The launch credits a cell what the devices owe it. -/
theorem launch_cell (c : Dev nD) (k : Fin 34) {a b e n : ℕ} (h : (∑ d, nS2 c k d) = a ∧ (∑ d, nD4 c k d) = b ∧ (∑ d, nB4 c k d) = e)
    (hn : a * cr S1024x1024 .fp8e4m3 + b * cr S256x1024 .fp8e4m3 + e = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => owed_app d c k, Finset.sum_add_distrib,
    Finset.sum_add_distrib, ← Finset.sum_mul, ← Finset.sum_mul, h.1, h.2.1, h.2.2, hn]

theorem sum_bar : ∀ c : Dev nD, (∑ d, nS2 c 0 d) = 0 ∧ (∑ d, nD4 c 0 d) = 0 ∧ (∑ d, nB4 c 0 d) = 3 := by decide +kernel
theorem sum_dg : ∀ (c : Dev nD) (q : Fin 4), (∑ d, nS2 c (rk (dg c) q) d) = 0 ∧ (∑ d, nD4 c (rk (dg c) q) d) = 1 ∧ (∑ d, nB4 c (rk (dg c) q) d) = 0 := by decide +kernel
theorem sum_nx : ∀ c : Dev nD, (∑ d, nS2 c (rk (nx c) 0) d) = 1 ∧ (∑ d, nD4 c (rk (nx c) 0) d) = 0 ∧ (∑ d, nB4 c (rk (nx c) 0) d) = 0 := by decide +kernel
theorem sum_pv : ∀ c : Dev nD, (∑ d, nS2 c (rk (pv c) 0) d) = 1 ∧ (∑ d, nD4 c (rk (pv c) 0) d) = 0 ∧ (∑ d, nB4 c (rk (pv c) 0) d) = 0 := by decide +kernel

theorem seven (c : Dev nD) : [(0 : Fin 34), rk (dg c) 0, rk (dg c) 1, rk (dg c) 2, rk (dg c) 3, rk (nx c) 0, rk (pv c) 0].Nodup := by revert c; decide

/-- The units of a device's own cells that it waits for. -/
theorem creds (c : Dev nD) : (Pipeline.launchCred O₀ c : sProp 𝕄) ⊢ credsP c := by
  unfold Pipeline.launchCred
  have h : (bigSep Finset.univ fun sm : SemLoc sig => (cred (tallyOn ((c : Thread nD τ), sm) (launchCredit (Pipeline.owing O₀) 0 ((c : Thread nD τ), sm))) : sProp 𝕄))
      ⊢ bigSepL [(0 : Fin 34), rk (dg c) 0, rk (dg c) 1, rk (dg c) 2, rk (dg c) 3, rk (nx c) 0, rk (pv c) 0]
          fun k => cred (tallyOn (cell c k) (launchCredit (Pipeline.owing O₀) 0 (cell c k))) := by
    have e : (bigSep (([(0 : Fin 34), rk (dg c) 0, rk (dg c) 1, rk (dg c) 2, rk (dg c) 3, rk (nx c) 0, rk (pv c) 0].toFinset).map ⟨semL, semL_inj⟩) fun sm : SemLoc sig => (cred (tallyOn ((c : Thread nD τ), sm) (launchCredit (Pipeline.owing O₀) 0 ((c : Thread nD τ), sm))) : sProp 𝕄))
        = bigSepL [(0 : Fin 34), rk (dg c) 0, rk (dg c) 1, rk (dg c) 2, rk (dg c) 3, rk (nx c) 0, rk (pv c) 0] fun k => cred (tallyOn (cell c k) (launchCredit (Pipeline.owing O₀) 0 (cell c k))) := by
      rw [bigSep_map]
      exact bigSep_eq_bigSepL_of_eq _ rfl (seven c) _
    rw [← e]
    exact bigSep_subset (Finset.subset_univ _)
  refine h.trans (Entails.of_eq ?_)
  unfold credsP
  show iprop(cred _ ∗ cred _ ∗ cred _ ∗ cred _ ∗ cred _ ∗ cred _ ∗ cred _) = _
  rw [launch_cell c 0 (sum_bar c) (n := 3) (by omega), launch_cell c (rk (dg c) 0) (sum_dg c 0) (n := rN c (dg c)) (by rw [rN_dg]; omega),
    launch_cell c (rk (dg c) 1) (sum_dg c 1) (n := rN c (dg c)) (by rw [rN_dg]; omega),
    launch_cell c (rk (dg c) 2) (sum_dg c 2) (n := rN c (dg c)) (by rw [rN_dg]; omega),
    launch_cell c (rk (dg c) 3) (sum_dg c 3) (n := rN c (dg c)) (by rw [rN_dg]; omega),
    launch_cell c (rk (nx c) 0) (sum_nx c) (n := rN c (nx c)) (by rw [rN_nx]; omega),
    launch_cell c (rk (pv c) 0) (sum_pv c) (n := rN c (pv c)) (by rw [rN_pv]; omega)]

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X₀ m c ∗ emp) := by
  rw [Pipeline.unscopedRestP_none, unscopedRest0_eq]
  iintro ⟨⟨H0, H1, Hv⟩, Hlev, Hcr, -, HG⟩
  ihave Hc := (creds (F := F) c) $$ Hcr
  imodintro
  unfold X₀
  isplitl
  · isplitl [HG]; · iexact HG
    isplitl [Hc]; · iexact Hc
    isplitl [Hlev]; · iexact Hlev
    isplitl [H0]; · iexact H0
    isplitl [H1]; · iexact H1
    iexists _; iexact Hv
  · iempintro

theorem phi0_intro (c : Dev nD) :
    iprop(X₀ m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrP
  iintro ⟨Hs, -, Hr⟩
  isplitl [Hs]; · iexact Hs
  iexact Hr

/-- What a device keeps after the launch. -/
def Y₁ (c : Dev nD) : sProp 𝕄 := iprop(unscopedSems0 c ∗ outP m c)

theorem phi1_exit (c : Dev nD) :
    (dats m ρ 0 c).Φ (Fin.last cfg0.N) ⊢ iprop(Y₁ m c ∗ Pipeline.ownSems0 osem c ∗ Pipeline.scopedRest cfg0.spec c) := by
  rw [show (dats m ρ 0 c).Φ (Fin.last cfg0.N) = Φ₁ m c from rfl, scopedRest0_eq]
  unfold Φ₁ Y₁ scrP
  rw [sems_eq]
  iintro ⟨⟨Hu, Ho⟩, HO, Hr⟩
  isplitl [Hu HO]
  · isplitl [Hu] <;> iassumption
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_OB c _ (by fin_cases w <;> fin_cases s <;> decide) 4
    · show (levAts L lv : sProp 𝕄) ⊢ MayWait _ _ _ 0
      rw [MayWait_zero]; iintro -; iempintro

/-! ## The run -/

/-- A whole buffer held is what the memory holds. -/
theorem mem_read {ℓ : Loc nD τ sig} (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨Hp, HS⟩
  icombine HS Hp gives %h
  isplitr; · ipureintro; exact Buf.eq_of_forall_mem_univ h
  iexact HS

/-- What a device's memory holds after the run. -/
def QD (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = OUT m c

theorem read_out (c : Dev nD) (s' : Phys nD τ sig (Elt F)) :
    (iprop(Y₁ m c ∗ emp ∗ SI s') : sProp 𝕄) ⊢ |={Set.univ}=> iprop(⌜QD m c s'.mem⌝ ∗ SI s') := by
  unfold Y₁ outP
  iintro ⟨⟨Hu, H0, H1, Hv⟩, -, HS⟩
  ihave ⟨%h0, HS⟩ := (mem_read (F := F) (ℓ := (c : Thread nD τ).loc main_arg0) _ s') $$ [H0 HS]
  · isplitl [H0]; · iexact H0
    iexact HS
  ihave ⟨%h1, HS⟩ := (mem_read (F := F) (ℓ := (c : Thread nD τ).loc main_arg1) _ s') $$ [H1 HS]
  · isplitl [H1]; · iexact H1
    iexact HS
  ihave ⟨%h2, HS⟩ := (mem_read (F := F) (ℓ := (c : Thread nD τ).loc main_v1) _ s') $$ [Hv HS]
  · isplitl [Hv]; · iexact Hv
    iexact HS
  imod (Pipeline.unscopedSems0_read (X := (unscopedSems0 c : sProp 𝕄)) (c := c) fupd_intro s') $$ [Hu HS] with ⟨%h3, HS⟩
  · isplitl [Hu] <;> iassumption
  imodintro
  isplitr; · ipureintro; exact ⟨h3, h0, h1, h2⟩
  iexact HS

/-- What the run leaves: each device's arguments as they were, and its block of the result. -/
def Fin1 (s : MemSt nD τ sig (Elt F)) : Prop := ∀ c : Dev nD,
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v1) = OUT m c

set_option maxRecDepth 8000 in
/-- From any memory with its counters at zero, every weakly fair run of the four devices ends, with every counter at
    zero, the arguments as they were and the result at `OUT`. -/
theorem run_main : θ_run defs (onTc (τ := τ) (main (F := F))) (s₀ m ρ) (fun r => Fin1 m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := X₀ m) (Y := Y₁ m) (Z := fun _ => iprop(emp))
    (hX := start_intro m ρ) (hin := phi0_intro m ρ) (hout := phi1_exit m ρ)
    (QY := QD m) (hY := read_out m)
    (hQ := fun s h hs => ⟨fun c => ⟨(h c).2.2.2.1, (h c).2.2.2.2.1,
      ((h c).1 (0 : Fin 2)).trans ((dats m ρ 0 c).arrAt_in (0 : Fin 2) rfl _),
      ((h c).1 (1 : Fin 2)).trans ((dats m ρ 0 c).arrAt_in (1 : Fin 2) rfl _), (h c).2.2.2.2.2⟩,
      sem_eq_zero hs fun c => (h c).2.2.1⟩)

end Cert.V07
-- ==== Proof.Finite.lean ====
/-
What the precondition says of the arguments over the extended reals: every element is a real number.
-/
module

public import proofs.«01_k».proof.Pre_finite_args_KernelIdeal
public import proofs.«01_k».proof.Pre_finite_args_ReferenceIdeal
public import Idealize.ShloMosaic.PureOps.Ideal.Laws
public import Idealize.ShloMosaic.Lib.ReduceAll

@[expose] public section

noncomputable section

namespace Cert.Args

open Idealize.ShloMosaic

/-- The shape facts of the precondition at one device's shapes. -/
theorem facts_kernel : Cert.Pre_finite_args_KernelIdeal.Facts where
  bcast_S_S4096x1024 := by decide
  reducesTo_S4096x1024_S_d0_1 := by decide
  h_S_ := by decide
  bcast_S_S4096x2048 := by decide
  reducesTo_S4096x2048_S_d0_1 := by decide
  bcast_S_S1 := by decide
  reducesTo_S1_S_d0 := by decide

/-- The shape facts of the precondition at the whole arrays' shapes. -/
theorem facts_reference : Cert.Pre_finite_args_ReferenceIdeal.Facts where
  bcast_S_S4096x4096 := by decide
  reducesTo_S4096x4096_S_d0_1 := by decide
  h_S_ := by decide
  bcast_S_S4096x2048 := by decide
  reducesTo_S4096x2048_S_d0_1 := by decide
  bcast_S_S1 := by decide
  reducesTo_S1_S_d0 := by decide

/-- The pattern of infinity is read as the top element. -/
theorem inf_top : (FloatOps.ofBits .f32 0x7F800000#32 : Ideal .f32) = (⊤ : EReal) := by
  show Ideal.ofBits .f32 0x7F800000#32 = ⊤
  simp [Ideal.ofBits, Ideal.ieee]

/-- An extended real whose absolute value is below the top element is a real number. -/
theorem real_of_abs (x : EReal) (h : max x (-x) < ⊤) : ∃ r : ℝ, x = r := by
  induction x using EReal.rec with
  | bot => simp at h
  | coe r => exact ⟨r, rfl⟩
  | top => simp at h

/-- One comparison of the precondition, read back. -/
theorem real_of_cmp {s : Shape} (x : FVec Ideal s .f32) (y : FVec Ideal s .f32) (hy : ∀ i, y i = (⊤ : EReal)) (i : s.Idx)
    (h : cmpf .olt (Host.absf x) y i = 1#1) : ∃ r : ℝ, (x i : EReal) = r := by
  have h1 : Ideal.cmp .olt (max (x i : EReal) (-(x i : EReal))) (y i) = 1#1 := h
  rw [hy] at h1
  refine real_of_abs _ ?_
  have h2 : (BitVec.ofBool (decide (max (x i : EReal) (-(x i : EReal)) < ⊤))) = 1#1 := h1
  by_contra hn
  rw [decide_eq_false hn] at h2
  exact absurd h2 (by decide)

open Cert.Pre_finite_args_KernelIdeal in
/-- The precondition at one device: every element of the four arguments is a real number. -/
theorem real_args [hPre : Facts] (x : FVec Ideal S4096x1024 .f32) (w : FVec Ideal S4096x2048 .f32) (a b : FVec Ideal S1 .f32)
    (h : fn (F := Ideal) x w a b = fun _ => 1#1) :
    (∀ i, ∃ r : ℝ, (x i : EReal) = r) ∧ (∀ i, ∃ r : ℝ, (w i : EReal) = r)
      ∧ (∀ i, ∃ r : ℝ, (a i : EReal) = r) ∧ (∀ i, ∃ r : ℝ, (b i : EReal) = r) := by
  haveI : Subsingleton S_.Idx := ⟨fun u v => funext fun k => Fin.elim0 k⟩
  have h0 := congrFun h (fun k => Fin.elim0 k)
  have key : ∀ p q : BitVec 1, p &&& q = 1#1 → p = 1#1 ∧ q = 1#1 := by decide
  obtain ⟨h123, h4⟩ := key _ _ h0
  obtain ⟨h12, h3⟩ := key _ _ h123
  obtain ⟨h1, h2⟩ := key _ _ h12
  exact ⟨fun i => real_of_cmp x _ (fun _ => inf_top) i (Host.reduce_andi_all _ _ _ _ _ h1 i),
    fun i => real_of_cmp w _ (fun _ => inf_top) i (Host.reduce_andi_all _ _ _ _ _ h2 i),
    fun i => real_of_cmp a _ (fun _ => inf_top) i (Host.reduce_andi_all _ _ _ _ _ h3 i),
    fun i => real_of_cmp b _ (fun _ => inf_top) i (Host.reduce_andi_all _ _ _ _ _ h4 i)⟩

end Cert.Args
-- ==== Proof.Product.lean ====
/-
What one block product computes over the extended reals, and with it each element of a device's result.
-/
module

public import proofs.«01_k».proof.Proof.Contents
public import Idealize.ShloMosaic.Lib.MatmulPlain
public import Idealize.ShloMosaic.Lib.Pipeline.Value

@[expose] public section

noncomputable section

namespace Cert.V07

open Cert.KernelIdeal Cert.KernelIdeal.Gen
open Idealize.ShloMosaic
open Idealize.ShloMosaic.TcCoe
open Idealize.ShloMosaic.ValueIdx
open scoped BigOperators

/-- The product of a whole block of rows, started from zero, at an index: the sum over the contracted axis. -/
theorem mm1024 (A : Vec Ideal S1x1024x1024 .fp8e4m3) (W : Vec Ideal S1x1024x2048 .fp8e4m3) (r : Fin 1024) (j : Fin 2048) :
    matmul (F := Ideal) dot_S1024x1024_S1024x2048_S1024x2048_1_0_0_1_n_n none
        (shapeCast S1024x1024 A shapeCasts_S1x1024x1024_S1024x1024 : FVec Ideal S1024x1024 .fp8e4m3)
        (shapeCast S1024x2048 W shapeCasts_S1x1024x2048_S1024x2048 : FVec Ideal S1024x2048 .fp8e4m3)
        (constant S1024x2048 .f32 0x00000000#32) (ix2 r j)
      = ∑ k : Fin 1024, (A (ix3 (0 : Fin 1) r k) : EReal) * W (ix3 (0 : Fin 1) k j) := by
  refine (Ideal.matmul_plain_apply (M := 1024) (K := 1024) (N := 2048) none _ _ _ r j).trans ?_
  have z : (constant (F := Ideal) S1024x2048 .f32 0x00000000#32) (ix2 r j) = (0 : EReal) := Ideal.ofBits_zero_f32
  rw [z, zero_add]
  refine Finset.sum_congr rfl fun k _ => ?_
  exact congrArg₂ (fun a b : EReal => a * b) (shapeCast_1ab_ab_apply A _ r k) (shapeCast_1ab_ab_apply W _ k j)

/-- The same for a quarter of a block of rows. -/
theorem mm256 (A : Vec Ideal S1x256x1024 .fp8e4m3) (W : Vec Ideal S1x1024x2048 .fp8e4m3) (r : Fin 256) (j : Fin 2048) :
    matmul (F := Ideal) dot_S256x1024_S1024x2048_S256x2048_1_0_0_1_n_n none
        (shapeCast S256x1024 A shapeCasts_S1x256x1024_S256x1024 : FVec Ideal S256x1024 .fp8e4m3)
        (shapeCast S1024x2048 W shapeCasts_S1x1024x2048_S1024x2048 : FVec Ideal S1024x2048 .fp8e4m3)
        (constant S256x2048 .f32 0x00000000#32) (ix2 r j)
      = ∑ k : Fin 1024, (A (ix3 (0 : Fin 1) r k) : EReal) * W (ix3 (0 : Fin 1) k j) := by
  refine (Ideal.matmul_plain_apply (M := 256) (K := 1024) (N := 2048) none _ _ _ r j).trans ?_
  have z : (constant (F := Ideal) S256x2048 .f32 0x00000000#32) (ix2 r j) = (0 : EReal) := Ideal.ofBits_zero_f32
  rw [z, zero_add]
  refine Finset.sum_congr rfl fun k _ => ?_
  exact congrArg₂ (fun a b : EReal => a * b) (shapeCast_1ab_ab_apply A _ r k) (shapeCast_1ab_ab_apply W _ k j)

/-- The first product, scaled. -/
theorem pay10_apply (s : Ideal .f32) (A : Vec Ideal S1x1024x1024 .fp8e4m3) (W : Vec Ideal S1x1024x2048 .fp8e4m3)
    (r : Fin 1024) (j : Fin 2048) :
    k0_pay10 (F := Ideal) s A W (ix2 r j) = (∑ k : Fin 1024, (A (ix3 (0 : Fin 1) r k) : EReal) * W (ix3 (0 : Fin 1) k j)) * (s : EReal) := by
  unfold k0_pay10
  rw [shapeCast_self]
  exact congrArg (fun a : EReal => a * (s : EReal)) (mm1024 A W r j)

/-- The second product, scaled and added. -/
theorem pay13_apply (s : Ideal .f32) (A : Vec Ideal S1x1024x1024 .fp8e4m3) (W : Vec Ideal S1x1024x2048 .fp8e4m3)
    (v : Vec Ideal S1024x2048 .f32) (r : Fin 1024) (j : Fin 2048) :
    k0_pay13 (F := Ideal) s A W v (ix2 r j)
      = (v (ix2 r j) : EReal) + (∑ k : Fin 1024, (A (ix3 (0 : Fin 1) r k) : EReal) * W (ix3 (0 : Fin 1) k j)) * (s : EReal) := by
  unfold k0_pay13
  rw [shapeCast_self]
  exact congrArg (fun a : EReal => (v (ix2 r j) : EReal) + a * (s : EReal)) (mm1024 A W r j)

/-- The third product, scaled and added. -/
theorem pay15_apply (s : Ideal .f32) (A : Vec Ideal S1x1024x1024 .fp8e4m3) (W : Vec Ideal S1x1024x2048 .fp8e4m3)
    (v : Vec Ideal S1024x2048 .f32) (r : Fin 1024) (j : Fin 2048) :
    k0_pay15 (F := Ideal) s A W v (ix2 r j)
      = (v (ix2 r j) : EReal) + (∑ k : Fin 1024, (A (ix3 (0 : Fin 1) r k) : EReal) * W (ix3 (0 : Fin 1) k j)) * (s : EReal) := by
  unfold k0_pay15
  exact congrArg (fun a : EReal => (v (ix2 r j) : EReal) + a * (s : EReal)) (mm1024 A W r j)

/-- The last product, a quarter of the rows at a time, scaled and added. -/
theorem pay23_apply (s : Ideal .f32) (v : Vec Ideal S256x2048 .f32) (A : Vec Ideal S1x256x1024 .fp8e4m3)
    (W : Vec Ideal S1x1024x2048 .fp8e4m3) (r : Fin 256) (j : Fin 2048) :
    k0_pay23 (F := Ideal) s v A W (ix2 r j)
      = (v (ix2 r j) : EReal) + (∑ k : Fin 1024, (A (ix3 (0 : Fin 1) r k) : EReal) * W (ix3 (0 : Fin 1) k j)) * (s : EReal) := by
  unfold k0_pay23
  rw [shapeCast_self]
  exact congrArg (fun a : EReal => (v (ix2 r j) : EReal) + a * (s : EReal)) (mm256 A W r j)

variable (m : (ℓ : Loc nD τ sig) → Buf (Elt Ideal) ℓ)

/-- The product of device `d`'s block of `x` for device `c` with block `d` of device `c`'s `w`, at row `n` and column `j`. -/
def blk (c d : Dev nD) (n : Fin 1024) (j : Fin 2048) : EReal :=
  ∑ k : Fin 1024, (xB m d c n k : EReal) * (wB m c d k j : EReal)

/-- The product of a device's two scales. -/
theorem sc_eq (c : Dev nD) : (sc m c : EReal)
    = (show EReal from m ((c : Thread nD τ).loc main_arg2) (ix1 0)) * (show EReal from m ((c : Thread nD τ).loc main_arg3) (ix1 0)) := rfl

/-- The accumulator after three products. -/
theorem ACC2_apply (c : Dev nD) (n : Fin 1024) (j : Fin 2048) :
    (ACC2 m c (ix2 n j) : EReal) = blk m c c n j * (sc m c : EReal) + blk m c (nx c) n j * (sc m c : EReal)
      + blk m c (pv c) n j * (sc m c : EReal) := by
  unfold ACC2
  rw [pay15_apply]
  unfold ACC1
  rw [pay13_apply]
  unfold ACC0
  rw [pay10_apply]
  rfl

/-- **The result of device `c`**: the four scaled block products, added in the order own, next, previous, opposite. -/
theorem OUT_apply (c : Dev nD) (n : Fin 1024) (j : Fin 2048) :
    (OUT m c (ix2 n j) : EReal) = blk m c c n j * (sc m c : EReal) + blk m c (nx c) n j * (sc m c : EReal)
      + blk m c (pv c) n j * (sc m c : EReal) + blk m c (dg c) n j * (sc m c : EReal) := by
  have hq : (⟨256 * (qtr n).val + n.val % 256, by have := n.isLt; unfold qtr; dsimp only; omega⟩ : Fin 1024) = n :=
    Fin.ext (by unfold qtr; dsimp only; omega)
  have h1 : (OUT m c (ix2 n j) : EReal)
      = outQ m c (qtr n) (ix2 ⟨n.val % 256, Nat.mod_lt _ (by decide)⟩ j) := rfl
  rw [h1]
  unfold outQ
  rw [pay23_apply]
  have h2 : (accQ m c (qtr n) (ix2 ⟨n.val % 256, Nat.mod_lt _ (by decide)⟩ j) : EReal) = ACC2 m c (ix2 n j) :=
    congrArg (fun i => (ACC2 m c (ix2 i j) : EReal)) hq
  rw [h2, ACC2_apply]
  refine congrArg (fun a : EReal => blk m c c n j * (sc m c : EReal) + blk m c (nx c) n j * (sc m c : EReal)
      + blk m c (pv c) n j * (sc m c : EReal) + a * (sc m c : EReal)) ?_
  unfold blk
  refine Finset.sum_congr rfl fun k _ => ?_
  exact congrArg (fun i => (xB m (dg c) c i k : EReal) * (wB m c (dg c) k j : EReal)) hq

end Cert.V07
-- ==== Proof.Whole.lean ====
/-
The equation: over the real numbers a device's four scaled block products add up to its rows of the reference's
product, scaled once.
-/
module

public import proofs.«01_k».proof.Proof.Product
public import proofs.«01_k».proof.Proof.Gen.ReferenceIdeal
public import Idealize.ShloMosaic.Lib.Layout
public import Idealize.ShloMosaic.Lib.StackMember
public import Mathlib.Tactic.Ring
public import Mathlib.Logic.Equiv.Fin.Basic

@[expose] public section

noncomputable section

namespace Cert.V07

open Cert.KernelIdeal Cert.KernelIdeal.Gen
open Idealize.ShloMosaic
open Idealize.ShloMosaic.TcCoe
open Idealize.ShloMosaic.ValueIdx
open scoped BigOperators

/-- The reference's result, as a function of its arguments. -/
def REF (X : FVec Ideal Cert.ReferenceIdeal.S4096x4096 .f32) (W : FVec Ideal Cert.ReferenceIdeal.S4096x2048 .f32)
    (a b : FVec Ideal Cert.ReferenceIdeal.S1 .f32) : FVec Ideal Cert.ReferenceIdeal.S4096x2048 .f32 :=
  mulf (Host.dotGeneral Cert.ReferenceIdeal.dot_S4096x4096_S4096x2048_S4096x2048_1_0_0_1_n_n none X W)
    (broadcastInDim Cert.ReferenceIdeal.S4096x2048 ![0, 1] Cert.ReferenceIdeal.Gen.facts.bcast_S1x1_S4096x2048_0_1
      (broadcastInDim Cert.ReferenceIdeal.S1x1 ![1] Cert.ReferenceIdeal.Gen.facts.bcast_S1_S1x1_1 (mulf a b)))

/-- The reference at an index: the sum over the contracted axis, times the product of the two scales. -/
theorem REF_apply (X : FVec Ideal Cert.ReferenceIdeal.S4096x4096 .f32) (W : FVec Ideal Cert.ReferenceIdeal.S4096x2048 .f32)
    (a b : FVec Ideal Cert.ReferenceIdeal.S1 .f32) (r : Fin 4096) (j : Fin 2048) :
    (REF X W a b (ix2 r j) : EReal)
      = (∑ k : Fin 4096, (X (ix2 r k) : EReal) * (W (ix2 k j) : EReal)) * ((a (ix1 0) : EReal) * (b (ix1 0) : EReal)) := by
  have h1 : (Host.dotGeneral Cert.ReferenceIdeal.dot_S4096x4096_S4096x2048_S4096x2048_1_0_0_1_n_n none X W (ix2 r j) : EReal)
      = ∑ k : Fin 4096, (X (ix2 r k) : EReal) * (W (ix2 k j) : EReal) :=
    StackMember.dotGeneral_plain_apply (m := 4096) (k := 4096) (n := 2048) none X W r j
  have h2 : ∀ i i' : Cert.ReferenceIdeal.S1.Idx, i = i' := fun i i' => funext fun t => by
    match t with
    | ⟨0, _⟩ => exact Subsingleton.elim (α := Fin 1) _ _
  have h3 : (broadcastInDim Cert.ReferenceIdeal.S4096x2048 ![0, 1] Cert.ReferenceIdeal.Gen.facts.bcast_S1x1_S4096x2048_0_1
      (broadcastInDim Cert.ReferenceIdeal.S1x1 ![1] Cert.ReferenceIdeal.Gen.facts.bcast_S1_S1x1_1 (mulf a b)) (ix2 r j) : EReal)
      = (a (ix1 0) : EReal) * (b (ix1 0) : EReal) :=
    congrArg (fun i => (a i : EReal) * (b i : EReal)) (h2 _ _)
  exact congrArg₂ (fun u v : EReal => u * v) h1 h3

/-- A sum over the whole contracted axis, one block of it at a time. -/
theorem sum_blocks (f : Fin 4096 → EReal) :
    ∑ k : Fin 4096, f k = ∑ d : Fin 4, ∑ k : Fin 1024, f ⟨1024 * d.val + k.val, by have := d.isLt; have := k.isLt; omega⟩ := by
  rw [← Fintype.sum_prod_type' (f := fun (d : Fin 4) (k : Fin 1024) => f ⟨1024 * d.val + k.val, by have := d.isLt; have := k.isLt; omega⟩)]
  refine (Fintype.sum_equiv (finProdFinEquiv (m := 4) (n := 1024)) _ _ fun x => ?_).symm
  exact congrArg f (Fin.ext (Nat.add_comm _ _))

/-- The order in which a device adds its four blocks reaches every block once. -/
theorem sum_order (c : Dev nD) (f : Fin 4 → ℝ) : f c + f (nx c) + f (pv c) + f (dg c) = f 0 + f 1 + f 2 + f 3 := by
  match c with
  | ⟨0, _⟩ => rw [show (⟨0, by decide⟩ : Dev nD) = 0 from rfl, show nx 0 = 1 from by decide, show pv 0 = 3 from by decide, show dg 0 = 2 from by decide]; ring
  | ⟨1, _⟩ => rw [show (⟨1, by decide⟩ : Dev nD) = 1 from rfl, show nx 1 = 2 from by decide, show pv 1 = 0 from by decide, show dg 1 = 3 from by decide]; ring
  | ⟨2, _⟩ => rw [show (⟨2, by decide⟩ : Dev nD) = 2 from rfl, show nx 2 = 3 from by decide, show pv 2 = 1 from by decide, show dg 2 = 0 from by decide]; ring
  | ⟨3, _⟩ => rw [show (⟨3, by decide⟩ : Dev nD) = 3 from rfl, show nx 3 = 0 from by decide, show pv 3 = 2 from by decide, show dg 3 = 1 from by decide]; ring

/-- A finite sum of products of real numbers is a real number. -/
theorem sum_real {ι : Type} [Fintype ι] (f g : ι → EReal) (hf : ∀ i, ∃ r : ℝ, f i = r) (hg : ∀ i, ∃ r : ℝ, g i = r) :
    ∃ r : ℝ, ∑ i, f i * g i = r := by
  classical
  have : ∀ s : Finset ι, ∃ r : ℝ, ∑ i ∈ s, f i * g i = r := fun s => by
    induction s using Finset.induction_on with
    | empty => exact ⟨0, by simp⟩
    | insert i s hi ih =>
      obtain ⟨r, hr⟩ := ih
      obtain ⟨p, hp⟩ := hf i
      obtain ⟨q, hq⟩ := hg i
      exact ⟨p * q + r, by rw [Finset.sum_insert hi, hr, hp, hq, EReal.coe_add, EReal.coe_mul]⟩
  exact this Finset.univ

variable (m : (ℓ : Loc nD τ sig) → Buf (Elt Ideal) ℓ)

/-- **The equation.** Where each device's arguments are its part of the whole arrays and every element is a real
    number, a device's result at an index is the reference's at the index of the whole array it stands for. -/
theorem OUT_eq_REF (X : FVec Ideal Cert.ReferenceIdeal.S4096x4096 .f32) (W : FVec Ideal Cert.ReferenceIdeal.S4096x2048 .f32)
    (a b : FVec Ideal Cert.ReferenceIdeal.S1 .f32)
    (hx : ∀ c : Dev nD, m ((c : Thread nD τ).loc main_arg0) = Layout.block ⟨2, ![4096, 1024]⟩ ⟨2, ![4096, 4096]⟩ 1 4 c X)
    (hw : ∀ c : Dev nD, m ((c : Thread nD τ).loc main_arg1) = W)
    (ha : ∀ c : Dev nD, m ((c : Thread nD τ).loc main_arg2) = a)
    (hb : ∀ c : Dev nD, m ((c : Thread nD τ).loc main_arg3) = b)
    (fx : ∀ (c : Dev nD) (i : S4096x1024.Idx), ∃ r : ℝ, (xA m c i : EReal) = r)
    (fw : ∀ (c : Dev nD) (i : S4096x2048.Idx), ∃ r : ℝ, (wA m c i : EReal) = r)
    (fa : ∀ i, ∃ r : ℝ, (a i : EReal) = r) (fb : ∀ i, ∃ r : ℝ, (b i : EReal) = r)
    (c : Dev nD) (n : Fin 1024) (j : Fin 2048) :
    (OUT m c (ix2 n j) : EReal)
      = REF X W a b (ix2 ⟨1024 * c.val + n.val, by have := c.isLt; have := n.isLt; have : nD = 4 := rfl; omega⟩ j) := by
  have hB : ∀ d : Dev nD, ∃ r : ℝ, blk m c d n j = r := fun d => sum_real _ _ (fun k => fx d _) (fun k => fw c _)
  choose B hB using hB
  obtain ⟨p, hp⟩ := fa (ix1 0)
  obtain ⟨q, hq⟩ := fb (ix1 0)
  have hs : (sc m c : EReal) = (p : EReal) * q := by
    rw [sc_eq, ha, hb]
    exact congrArg₂ (fun u v : EReal => u * v) hp hq
  have ht : (∑ k : Fin 4096, (X (ix2 ⟨1024 * c.val + n.val, by have := c.isLt; have := n.isLt; have : nD = 4 := rfl; omega⟩ k) : EReal)
      * (W (ix2 k j) : EReal)) = ∑ d : Fin 4, blk m c d n j := by
    rw [sum_blocks]
    refine Finset.sum_congr rfl fun d _ => Finset.sum_congr rfl fun k _ => ?_
    have e1 : (xB m d c n k : EReal) = X (ix2 ⟨1024 * c.val + n.val, by have := c.isLt; have := n.isLt; have : nD = 4 := rfl; omega⟩
        ⟨1024 * d.val + k.val, by have := d.isLt; have := k.isLt; omega⟩) := by
      unfold xB xA
      rw [hx]
      refine congrArg X ?_
      funext t
      apply Fin.ext
      match t with
      | ⟨0, _⟩ => rfl
      | ⟨1, _⟩ => exact congrArg (· + k.val) (Nat.mul_comm d.val 1024)
    have e2 : (wB m c d k j : EReal) = W (ix2 ⟨1024 * d.val + k.val, by have := d.isLt; have := k.isLt; omega⟩ j) := by
      unfold wB wA
      rw [hw]
    exact congrArg₂ (fun u v : EReal => u * v) e1.symm e2.symm
  rw [OUT_apply, REF_apply, ht, hp, hq, hs, Fin.sum_univ_four]
  simp only [hB]
  rw [← EReal.coe_mul p q]
  simp only [← EReal.coe_mul, ← EReal.coe_add]
  refine congrArg _ ?_
  rw [← sum_order c B]
  ring

end Cert.V07
-- ==== Proof.lean ====
/-
The claims: each program runs, leaves its arguments as they were and every counter at zero; and over the extended
reals, of real arguments, each device's result is its block of the reference's.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import proofs.«01_k».proof.Proof.Finite
public import proofs.«01_k».proof.Proof.Whole

@[expose] public section

noncomputable section

namespace Cert.Proof

open Idealize.ShloMosaic Idealize.SL.Sem

/-- The kernel's text, over any float values, runs, keeps its arguments and leaves every counter at zero. -/
theorem frame_text {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c).1, (h.1 c).2.1, (h.1 c).2.2.1, (h.1 c).2.2.2.1⟩, h.2⟩)
    (Cert.V07.run_main (F := F) m ρ)

/-- The two printings of the kernel have the same body table. -/
theorem defs₀_eq {F : FTy → Type} [FloatOps F] :
    Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl

/-- Hence the same table with its pipeline. -/
theorem defs_eq {F : FTy → Type} [FloatOps F] : Cert.Kernel.defs (F := F) = Cert.KernelIdeal.defs (F := F) :=
  congrArg (Pipeline.defs (Cert.KernelIdeal.pcfgs (F := F))) defs₀_eq

/-- What a run with one of two equal body tables gives, a run with the other gives. -/
theorem run_of_eq {nD : Nat} {τ : Topo} {sig : RefSig} {V : EltTy → Type} {Λ : Labels} {d d' : Defs nD τ sig V Λ} (e : d = d')
    (p : (c : Thread nD τ) → Prog (TpuEff nD τ sig V Λ c.2) PUnit) (s : MemSt nD τ sig V) (P : _ → Prop)
    (h : θ_run d' p s P) : θ_run d p s P := e ▸ h

/-- The kernel as printed runs, keeps its arguments and leaves every counter at zero. -/
theorem frame_kernel : Cert.quiescent_Kernel (hKernel := Cert.Kernel.Gen.facts) := fun m ρ _ =>
  run_of_eq defs_eq _ _ _ (frame_text (F := Bits) m ρ)

/-- So does the kernel over the extended reals. -/
theorem frame_ideal : Cert.quiescent_KernelIdeal (hKernelIdeal := Cert.KernelIdeal.Gen.facts) := fun m ρ _ => frame_text (F := Ideal) m ρ

/-- The reference runs, keeps its arguments and leaves every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the kernel where the precondition is assumed. -/
theorem frame_ideal_pre : Cert.quiescent_KernelIdeal_pre_finite_args_KernelIdeal (hKernelIdeal := Cert.KernelIdeal.Gen.facts)
    (hPre_finite_args_KernelIdeal := Cert.Args.facts_kernel) := fun m ρ _ => frame_text (F := Ideal) m ρ

/-- The same of the reference where the precondition is assumed. -/
theorem frame_reference_pre : Cert.quiescent_ReferenceIdeal_pre_finite_args_ReferenceIdeal (hReferenceIdeal := Cert.ReferenceIdeal.Gen.facts)
    (hPre_finite_args_ReferenceIdeal := Cert.Args.facts_reference) := fun m ρ _ => frame_reference m ρ trivial

/-- Over the extended reals, of real arguments, device `c`'s result is block `c` of the rows of the reference's. -/
theorem value : Cert.algebraic_KernelIdeal_ReferenceIdeal_pre_finite_args_KernelIdeal (hKernelIdeal := Cert.KernelIdeal.Gen.facts)
    (hReferenceIdeal := Cert.ReferenceIdeal.Gen.facts) (hPre_finite_args_KernelIdeal := Cert.Args.facts_kernel) := by
  intro m ρ m' ρ' hpre hagree
  have fin := fun c => Cert.Args.real_args (hPre := Cert.Args.facts_kernel) _ _ _ _ (hpre c)
  refine ⟨Cert.V07.REF _ _ _ _, (θ_run Cert.KernelIdeal.defs _ _).mono (fun r h c => ⟨?_, (h.1 c).1, (h.1 c).2.1, (h.1 c).2.2.1, (h.1 c).2.2.2.1⟩)
    (Cert.V07.run_main (F := Ideal) m ρ),
    (θ_run Cert.ReferenceIdeal.defs _ _).mono (fun _ h => h 0) (Cert.ReferenceIdeal.Value.run (F := Ideal) m' ρ')⟩
  refine (h.1 c).2.2.2.2.trans ?_
  funext i
  obtain ⟨n, j, rfl⟩ : ∃ (n : Fin 1024) (j : Fin 2048), i = ValueIdx.ix2 n j := ⟨i 0, i 1, ValueIdx.eq_ix2 i⟩
  refine (Cert.V07.OUT_eq_REF m _ _ _ _ (fun c => (hagree c).1) (fun c => (hagree c).2.1) (fun c => (hagree c).2.2.1)
    (fun c => (hagree c).2.2.2) (fun c => (fin c).1) (fun c => (fin c).2.1) ?_ ?_ c n j).trans ?_
  · exact (hagree 0).2.2.1 ▸ (fin 0).2.2.1
  · exact (hagree 0).2.2.2 ▸ (fin 0).2.2.2
  · refine congrArg (Cert.V07.REF _ _ _ _) ?_
    funext t
    apply Fin.ext
    match t with
    | ⟨0, _⟩ => exact congrArg (· + n.val) (Nat.mul_comm 1024 c.val)
    | ⟨1, _⟩ => rfl

/-- Everything claimed. -/
theorem claim : Cert.Claim :=
  ⟨Cert.Kernel.Gen.facts, Cert.KernelIdeal.Gen.facts, Cert.ReferenceIdeal.Gen.facts, Cert.Args.facts_kernel, Cert.Args.facts_reference,
    frame_kernel, frame_ideal, frame_ideal_pre, frame_reference, frame_reference_pre, trivial, value⟩

end Cert.Proof

end
